-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1x512x768 : Shape := ⟨3, ![1, 512, 768]⟩
abbrev S128x16 : Shape := ⟨2, ![128, 16]⟩
abbrev S512x768 : Shape := ⟨2, ![512, 768]⟩
abbrev S512 : Shape := ⟨1, ![512]⟩
abbrev S256x256x256 : Shape := ⟨3, ![256, 256, 256]⟩
abbrev S256x5x256 : Shape := ⟨3, ![256, 5, 256]⟩
abbrev S_ : Shape := ⟨0, ![]⟩

class Facts : Prop where
  bcast_S_S128x16 : S_.BroadcastsInDim S128x16 (![] : Fin 0 → Fin S128x16.rank)
  bcast_S_S1x512x768 : S_.BroadcastsInDim S1x512x768 (![] : Fin 0 → Fin S1x512x768.rank)
  bcast_S_S512x768 : S_.BroadcastsInDim S512x768 (![] : Fin 0 → Fin S512x768.rank)
  bcast_S_S256x256x256 : S_.BroadcastsInDim S256x256x256 (![] : Fin 0 → Fin S256x256x256.rank)
  bcast_S_S256x5x256 : S_.BroadcastsInDim S256x5x256 (![] : Fin 0 → Fin S256x5x256.rank)

variable [Facts]

def fn_part2 {F : FTy → Type} [FloatOps F] (main_arg16 : FVec F S256x256x256 .f32) (main_arg17 : FVec F S256x256x256 .f32) (main_arg18 : FVec F S256x5x256 .f32) (main_v4 : IVec S128x16 1) (main_v9 : IVec S128x16 1) (main_v14 : IVec S128x16 1) (main_v17 : IVec S1x512x768 1) (main_v20 : IVec S512x768 1) (main_v23 : IVec S512x768 1) (main_v26 : IVec S512x768 1) (main_v29 : IVec S512x768 1) (main_v32 : IVec S512x768 1) (main_v33 : FVec F S512x768 .f32) (main_v34 : FVec F S512x768 .f32) : IVec S128x16 1 × IVec S128x16 1 × IVec S128x16 1 × IVec S1x512x768 1 × IVec S512x768 1 × IVec S512x768 1 × IVec S512x768 1 × IVec S512x768 1 × IVec S512x768 1 × IVec S512x768 1 × IVec S256x256x256 1 × IVec S256x256x256 1 × IVec S256x5x256 1 :=
  let main_v35 : IVec S512x768 1 := cmpf .olt main_v33 main_v34
  let main_v36 : FVec F S256x256x256 .f32 := Host.absf main_arg16
  let main_cst_11 : FVec F S_ .f32 := constant S_ .f32 0x7F800000#32
  let main_v37 : FVec F S256x256x256 .f32 := broadcastInDim S256x256x256 ![] bcast_S_S256x256x256 main_cst_11
  let main_v38 : IVec S256x256x256 1 := cmpf .olt main_v36 main_v37
  let main_v39 : FVec F S256x256x256 .f32 := Host.absf main_arg17
  let main_cst_12 : FVec F S_ .f32 := constant S_ .f32 0x7F800000#32
  let main_v40 : FVec F S256x256x256 .f32 := broadcastInDim S256x256x256 ![] bcast_S_S256x256x256 main_cst_12
  let main_v41 : IVec S256x256x256 1 := cmpf .olt main_v39 main_v40
  let main_v42 : FVec F S256x5x256 .f32 := Host.absf main_arg18
  let main_cst_13 : FVec F S_ .f32 := constant S_ .f32 0x7F800000#32
  let main_v43 : FVec F S256x5x256 .f32 := broadcastInDim S256x5x256 ![] bcast_S_S256x5x256 main_cst_13
  let main_v44 : IVec S256x5x256 1 := cmpf .olt main_v42 main_v43
  (main_v4, main_v9, main_v14, main_v17, main_v20, main_v23, main_v26, main_v29, main_v32, main_v35, main_v38, main_v41, main_v44)

def fn_part1 {F : FTy → Type} [FloatOps F] (main_arg4 : FVec F S512x768 .f32) (main_arg6 : FVec F S512x768 .f32) (main_arg8 : FVec F S512x768 .f32) (main_arg10 : FVec F S512x768 .f32) (main_arg12 : FVec F S512x768 .f32) (main_arg14 : FVec F S512x768 .f32) (main_arg16 : FVec F S256x256x256 .f32) (main_arg17 : FVec F S256x256x256 .f32) (main_arg18 : FVec F S256x5x256 .f32) (main_v4 : IVec S128x16 1) (main_v9 : IVec S128x16 1) (main_v14 : IVec S128x16 1) (main_v15 : FVec F S1x512x768 .f32) (main_v16 : FVec F S1x512x768 .f32) : IVec S128x16 1 × IVec S128x16 1 × IVec S128x16 1 × IVec S1x512x768 1 × IVec S512x768 1 × IVec S512x768 1 × IVec S512x768 1 × IVec S512x768 1 × IVec S512x768 1 × IVec S512x768 1 × IVec S256x256x256 1 × IVec S256x256x256 1 × IVec S256x5x256 1 :=
  let main_v17 : IVec S1x512x768 1 := cmpf .olt main_v15 main_v16
  let main_v18 : FVec F S512x768 .f32 := Host.absf main_arg4
  let main_cst_5 : FVec F S_ .f32 := constant S_ .f32 0x7F800000#32
  let main_v19 : FVec F S512x768 .f32 := broadcastInDim S512x768 ![] bcast_S_S512x768 main_cst_5
  let main_v20 : IVec S512x768 1 := cmpf .olt main_v18 main_v19
  let main_v21 : FVec F S512x768 .f32 := Host.absf main_arg6
  let main_cst_6 : FVec F S_ .f32 := constant S_ .f32 0x7F800000#32
  let main_v22 : FVec F S512x768 .f32 := broadcastInDim S512x768 ![] bcast_S_S512x768 main_cst_6
  let main_v23 : IVec S512x768 1 := cmpf .olt main_v21 main_v22
  let main_v24 : FVec F S512x768 .f32 := Host.absf main_arg8
  let main_cst_7 : FVec F S_ .f32 := constant S_ .f32 0x7F800000#32
  let main_v25 : FVec F S512x768 .f32 := broadcastInDim S512x768 ![] bcast_S_S512x768 main_cst_7
  let main_v26 : IVec S512x768 1 := cmpf .olt main_v24 main_v25
  let main_v27 : FVec F S512x768 .f32 := Host.absf main_arg10
  let main_cst_8 : FVec F S_ .f32 := constant S_ .f32 0x7F800000#32
  let main_v28 : FVec F S512x768 .f32 := broadcastInDim S512x768 ![] bcast_S_S512x768 main_cst_8
  let main_v29 : IVec S512x768 1 := cmpf .olt main_v27 main_v28
  let main_v30 : FVec F S512x768 .f32 := Host.absf main_arg12
  let main_cst_9 : FVec F S_ .f32 := constant S_ .f32 0x7F800000#32
  let main_v31 : FVec F S512x768 .f32 := broadcastInDim S512x768 ![] bcast_S_S512x768 main_cst_9
  let main_v32 : IVec S512x768 1 := cmpf .olt main_v30 main_v31
  let main_v33 : FVec F S512x768 .f32 := Host.absf main_arg14
  let main_cst_10 : FVec F S_ .f32 := constant S_ .f32 0x7F800000#32
  let main_v34 : FVec F S512x768 .f32 := broadcastInDim S512x768 ![] bcast_S_S512x768 main_cst_10
  fn_part2 (F := F) main_arg16 main_arg17 main_arg18 main_v4 main_v9 main_v14 main_v17 main_v20 main_v23 main_v26 main_v29 main_v32 main_v33 main_v34

def fn {F : FTy → Type} [FloatOps F] (main_arg0 : FVec F S1x512x768 .f32) (main_arg1 : IVec S128x16 32) (main_arg2 : IVec S128x16 32) (main_arg3 : IVec S128x16 32) (main_arg4 : FVec F S512x768 .f32) (main_arg5 : FVec F S512 .f32) (main_arg6 : FVec F S512x768 .f32) (main_arg7 : FVec F S512 .f32) (main_arg8 : FVec F S512x768 .f32) (main_arg9 : FVec F S512 .f32) (main_arg10 : FVec F S512x768 .f32) (main_arg11 : FVec F S512 .f32) (main_arg12 : FVec F S512x768 .f32) (main_arg13 : FVec F S512 .f32) (main_arg14 : FVec F S512x768 .f32) (main_arg15 : FVec F S512 .f32) (main_arg16 : FVec F S256x256x256 .f32) (main_arg17 : FVec F S256x256x256 .f32) (main_arg18 : FVec F S256x5x256 .f32) : IVec S128x16 1 × IVec S128x16 1 × IVec S128x16 1 × IVec S1x512x768 1 × IVec S512x768 1 × IVec S512x768 1 × IVec S512x768 1 × IVec S512x768 1 × IVec S512x768 1 × IVec S512x768 1 × IVec S256x256x256 1 × IVec S256x256x256 1 × IVec S256x5x256 1 :=
  let main_c : IVec S_ 32 := constantI S_ 32 0#32
  let main_v0 : IVec S128x16 32 := broadcastInDim S128x16 ![] bcast_S_S128x16 main_c
  let main_v1 : IVec S128x16 1 := cmpi .sge main_arg1 main_v0
  let main_c_0 : IVec S_ 32 := constantI S_ 32 512#32
  let main_v2 : IVec S128x16 32 := broadcastInDim S128x16 ![] bcast_S_S128x16 main_c_0
  let main_v3 : IVec S128x16 1 := cmpi .slt main_arg1 main_v2
  let main_v4 : IVec S128x16 1 := andi main_v1 main_v3
  let main_c_1 : IVec S_ 32 := constantI S_ 32 0#32
  let main_v5 : IVec S128x16 32 := broadcastInDim S128x16 ![] bcast_S_S128x16 main_c_1
  let main_v6 : IVec S128x16 1 := cmpi .sge main_arg2 main_v5
  let main_c_2 : IVec S_ 32 := constantI S_ 32 512#32
  let main_v7 : IVec S128x16 32 := broadcastInDim S128x16 ![] bcast_S_S128x16 main_c_2
  let main_v8 : IVec S128x16 1 := cmpi .slt main_arg2 main_v7
  let main_v9 : IVec S128x16 1 := andi main_v6 main_v8
  let main_c_3 : IVec S_ 32 := constantI S_ 32 0#32
  let main_v10 : IVec S128x16 32 := broadcastInDim S128x16 ![] bcast_S_S128x16 main_c_3
  let main_v11 : IVec S128x16 1 := cmpi .sge main_arg3 main_v10
  let main_c_4 : IVec S_ 32 := constantI S_ 32 512#32
  let main_v12 : IVec S128x16 32 := broadcastInDim S128x16 ![] bcast_S_S128x16 main_c_4
  let main_v13 : IVec S128x16 1 := cmpi .slt main_arg3 main_v12
  let main_v14 : IVec S128x16 1 := andi main_v11 main_v13
  let main_v15 : FVec F S1x512x768 .f32 := Host.absf main_arg0
  let main_cst : FVec F S_ .f32 := constant S_ .f32 0x7F800000#32
  let main_v16 : FVec F S1x512x768 .f32 := broadcastInDim S1x512x768 ![] bcast_S_S1x512x768 main_cst
  fn_part1 (F := F) main_arg4 main_arg6 main_arg8 main_arg10 main_arg12 main_arg14 main_arg16 main_arg17 main_arg18 main_v4 main_v9 main_v14 main_v15 main_v16
-- ==== Kernel.lean ====
abbrev S1x512x768 : Shape := ⟨3, ![1, 512, 768]⟩
abbrev S128x16 : Shape := ⟨2, ![128, 16]⟩
abbrev S512x768 : Shape := ⟨2, ![512, 768]⟩
abbrev S512 : Shape := ⟨1, ![512]⟩
abbrev S256x256x256 : Shape := ⟨3, ![256, 256, 256]⟩
abbrev S256x5x256 : Shape := ⟨3, ![256, 5, 256]⟩
abbrev S2048x1 : Shape := ⟨2, ![2048, 1]⟩
abbrev S1x512 : Shape := ⟨2, ![1, 512]⟩
abbrev S3x128x256 : Shape := ⟨3, ![3, 128, 256]⟩
abbrev S1x128x256 : Shape := ⟨3, ![1, 128, 256]⟩
abbrev S2048x512 : Shape := ⟨2, ![2048, 512]⟩
abbrev S512x512 : Shape := ⟨2, ![512, 512]⟩
abbrev S2048x128 : Shape := ⟨2, ![2048, 128]⟩
abbrev S2048x256 : Shape := ⟨2, ![2048, 256]⟩
abbrev S128x16x256 : Shape := ⟨3, ![128, 16, 256]⟩
abbrev S128x256 : Shape := ⟨2, ![128, 256]⟩
abbrev S256x65536 : Shape := ⟨2, ![256, 65536]⟩
abbrev S2x256x128x128 : Shape := ⟨4, ![2, 256, 128, 128]⟩
abbrev S256x2048 : Shape := ⟨2, ![256, 2048]⟩
abbrev S2x8x128x128 : Shape := ⟨4, ![2, 8, 128, 128]⟩
abbrev S128x2048 : Shape := ⟨2, ![128, 2048]⟩
abbrev S128x128 : Shape := ⟨2, ![128, 128]⟩
abbrev S1x1x128x128 : Shape := ⟨4, ![1, 1, 128, 128]⟩
abbrev S2x256x16384 : Shape := ⟨3, ![2, 256, 16384]⟩
abbrev S5x256x256 : Shape := ⟨3, ![5, 256, 256]⟩
abbrev S128x5x128x128 : Shape := ⟨4, ![128, 5, 128, 128]⟩
abbrev S2x256x1024 : Shape := ⟨3, ![2, 256, 1024]⟩
abbrev S8x5x128x128 : Shape := ⟨4, ![8, 5, 128, 128]⟩
abbrev S1x256x1024 : Shape := ⟨3, ![1, 256, 1024]⟩
abbrev S256x1024 : Shape := ⟨2, ![256, 1024]⟩
abbrev S256x128 : Shape := ⟨2, ![256, 128]⟩
abbrev S1x256x256 : Shape := ⟨3, ![1, 256, 256]⟩
abbrev S256x256 : Shape := ⟨2, ![256, 256]⟩
abbrev S128x128x128x5 : Shape := ⟨4, ![128, 128, 128, 5]⟩

abbrev nBuf : Space → Nat
  | .hbm => 37
  | .vmem => 30
  | .smem => 0
  | _ => 0

abbrev bufTy : (tb : Table) → Fin (tcTables nBuf tb) → BufTy
  | .hbm, ⟨0, _⟩ => ⟨S1x512x768, .f32⟩
  | .hbm, ⟨1, _⟩ => ⟨S128x16, .i32⟩
  | .hbm, ⟨2, _⟩ => ⟨S128x16, .i32⟩
  | .hbm, ⟨3, _⟩ => ⟨S128x16, .i32⟩
  | .hbm, ⟨4, _⟩ => ⟨S512x768, .f32⟩
  | .hbm, ⟨5, _⟩ => ⟨S512, .f32⟩
  | .hbm, ⟨6, _⟩ => ⟨S512x768, .f32⟩
  | .hbm, ⟨7, _⟩ => ⟨S512, .f32⟩
  | .hbm, ⟨8, _⟩ => ⟨S512x768, .f32⟩
  | .hbm, ⟨9, _⟩ => ⟨S512, .f32⟩
  | .hbm, ⟨10, _⟩ => ⟨S512x768, .f32⟩
  | .hbm, ⟨11, _⟩ => ⟨S512, .f32⟩
  | .hbm, ⟨12, _⟩ => ⟨S512x768, .f32⟩
  | .hbm, ⟨13, _⟩ => ⟨S512, .f32⟩
  | .hbm, ⟨14, _⟩ => ⟨S512x768, .f32⟩
  | .hbm, ⟨15, _⟩ => ⟨S512, .f32⟩
  | .hbm, ⟨16, _⟩ => ⟨S256x256x256, .f32⟩
  | .hbm, ⟨17, _⟩ => ⟨S256x256x256, .f32⟩
  | .hbm, ⟨18, _⟩ => ⟨S256x5x256, .f32⟩
  | .hbm, ⟨19, _⟩ => ⟨S512x768, .f32⟩
  | .hbm, ⟨20, _⟩ => ⟨S2048x1, .i32⟩
  | .hbm, ⟨21, _⟩ => ⟨S2048x1, .i32⟩
  | .hbm, ⟨22, _⟩ => ⟨S2048x1, .i32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S3x128x256, .f32⟩
  | .hbm, ⟨30, _⟩ => ⟨S256x65536, .f32⟩
  | .hbm, ⟨31, _⟩ => ⟨S256x65536, .f32⟩
  | .hbm, ⟨32, _⟩ => ⟨S2x256x128x128, .f32⟩
  | .hbm, ⟨33, _⟩ => ⟨S2x256x16384, .f32⟩
  | .hbm, ⟨34, _⟩ => ⟨S5x256x256, .f32⟩
  | .hbm, ⟨35, _⟩ => ⟨S128x5x128x128, .f32⟩
  | .hbm, ⟨36, _⟩ => ⟨S128x128x128x5, .f32⟩
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S512x768, .f32⟩
  | .local _ .vmem, ⟨4, _⟩ => ⟨S512x768, .f32⟩
  | .local _ .vmem, ⟨5, _⟩ => ⟨S1x512, .f32⟩
  | .local _ .vmem, ⟨6, _⟩ => ⟨S512x768, .f32⟩
  | .local _ .vmem, ⟨7, _⟩ => ⟨S1x512, .f32⟩
  | .local _ .vmem, ⟨8, _⟩ => ⟨S512x768, .f32⟩
  | .local _ .vmem, ⟨9, _⟩ => ⟨S1x512, .f32⟩
  | .local _ .vmem, ⟨10, _⟩ => ⟨S512x768, .f32⟩
  | .local _ .vmem, ⟨11, _⟩ => ⟨S1x512, .f32⟩
  | .local _ .vmem, ⟨12, _⟩ => ⟨S512x768, .f32⟩
  | .local _ .vmem, ⟨13, _⟩ => ⟨S1x512, .f32⟩
  | .local _ .vmem, ⟨14, _⟩ => ⟨S512x768, .f32⟩
  | .local _ .vmem, ⟨15, _⟩ => ⟨S1x512, .f32⟩
  | .local _ .vmem, ⟨16, _⟩ => ⟨S1x128x256, .f32⟩
  | .local _ .vmem, ⟨17, _⟩ => ⟨S1x128x256, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S3x128x256, .f32⟩
  | .local _ .vmem, ⟨23, _⟩ => ⟨S2x8x128x128, .f32⟩
  | .local _ .vmem, ⟨24, _⟩ => ⟨S2x8x128x128, .f32⟩
  | .local _ .vmem, ⟨25, _⟩ => ⟨S2x256x1024, .f32⟩
  | .local _ .vmem, ⟨26, _⟩ => ⟨S2x256x1024, .f32⟩
  | .local _ .vmem, ⟨27, _⟩ => ⟨S5x256x256, .f32⟩
  | .local _ .vmem, ⟨28, _⟩ => ⟨S8x5x128x128, .f32⟩
  | .local _ .vmem, ⟨29, _⟩ => ⟨S8x5x128x128, .f32⟩
  | _, _ => ⟨S1x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg16_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem16_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem3_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def k0_cond2 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_2 : BitVec 32 := 0#32
  let v11 : BitVec 1 := Scalar.cmpi .ne v10 c0_i32_2
  v11

def k0_cond3 (i : grid0.Coords) : BitVec 1 :=
  let arg0 : BitVec 32 := BitVec.ofNat 32 (i 0).val
  let c2_i32 : BitVec 32 := 2#32
  let v12 : BitVec 1 := Scalar.cmpi .eq arg0 c2_i32
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x8x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S2x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x5x128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x512x768 : Shape := ⟨3, ![1, 512, 768]⟩
abbrev S128x16 : Shape := ⟨2, ![128, 16]⟩
abbrev S512x768 : Shape := ⟨2, ![512, 768]⟩
abbrev S512 : Shape := ⟨1, ![512]⟩
abbrev S256x256x256 : Shape := ⟨3, ![256, 256, 256]⟩
abbrev S256x5x256 : Shape := ⟨3, ![256, 5, 256]⟩
abbrev S_ : Shape := ⟨0, ![]⟩
abbrev S128x16x1 : Shape := ⟨3, ![128, 16, 1]⟩
abbrev S128x16x768 : Shape := ⟨3, ![128, 16, 768]⟩
abbrev S768x512 : Shape := ⟨2, ![768, 512]⟩
abbrev S128x16x512 : Shape := ⟨3, ![128, 16, 512]⟩
abbrev S1x1x512 : Shape := ⟨3, ![1, 1, 512]⟩
abbrev S128x16x128 : Shape := ⟨3, ![128, 16, 128]⟩
abbrev S128x16x256 : Shape := ⟨3, ![128, 16, 256]⟩
abbrev S128x256 : Shape := ⟨2, ![128, 256]⟩
abbrev S256x256x128 : Shape := ⟨3, ![256, 256, 128]⟩
abbrev S256x128x128 : Shape := ⟨3, ![256, 128, 128]⟩
abbrev S128x128x256 : Shape := ⟨3, ![128, 128, 256]⟩
abbrev S5x256x128x128 : Shape := ⟨4, ![5, 256, 128, 128]⟩
abbrev S128x5x128x128 : Shape := ⟨4, ![128, 5, 128, 128]⟩
abbrev S128x128x128x5 : Shape := ⟨4, ![128, 128, 128, 5]⟩

abbrev nBuf : Space → Nat
  | .hbm => 239
  | .vmem => 0
  | .smem => 0
  | _ => 0

abbrev hbmTy0_0 (i : Nat) : BufTy := match i % 128 with
  | 0 => ⟨S1x512x768, .f32⟩
  | 1 => ⟨S128x16, .i32⟩
  | 2 => ⟨S128x16, .i32⟩
  | 3 => ⟨S128x16, .i32⟩
  | 4 => ⟨S512x768, .f32⟩
  | 5 => ⟨S512, .f32⟩
  | 6 => ⟨S512x768, .f32⟩
  | 7 => ⟨S512, .f32⟩
  | 8 => ⟨S512x768, .f32⟩
  | 9 => ⟨S512, .f32⟩
  | 10 => ⟨S512x768, .f32⟩
  | 11 => ⟨S512, .f32⟩
  | 12 => ⟨S512x768, .f32⟩
  | 13 => ⟨S512, .f32⟩
  | 14 => ⟨S512x768, .f32⟩
  | 15 => ⟨S512, .f32⟩
  | 16 => ⟨S256x256x256, .f32⟩
  | 17 => ⟨S256x256x256, .f32⟩
  | 18 => ⟨S256x5x256, .f32⟩
  | 19 => ⟨S512x768, .f32⟩
  | 20 => ⟨S_, .i32⟩
  | 21 => ⟨S128x16, .i32⟩
  | 22 => ⟨S128x16, .i1⟩
  | 23 => ⟨S_, .i32⟩
  | 24 => ⟨S128x16, .i32⟩
  | 25 => ⟨S128x16, .i32⟩
  | 26 => ⟨S128x16, .i32⟩
  | 27 => ⟨S128x16x1, .i32⟩
  | 28 => ⟨S128x16x768, .f32⟩
  | 29 => ⟨S768x512, .f32⟩
  | 30 => ⟨S128x16x512, .f32⟩
  | 31 => ⟨S1x1x512, .f32⟩
  | 32 => ⟨S128x16x512, .f32⟩
  | 33 => ⟨S128x16x512, .f32⟩
  | 34 => ⟨S128x16x128, .f32⟩
  | 35 => ⟨S128x16x128, .f32⟩
  | 36 => ⟨S128x16x128, .f32⟩
  | 37 => ⟨S128x16x128, .f32⟩
  | 38 => ⟨S128x16x128, .f32⟩
  | 39 => ⟨S128x16x128, .f32⟩
  | 40 => ⟨S_, .f32⟩
  | 41 => ⟨S128x16x128, .f32⟩
  | 42 => ⟨S128x16x128, .f32⟩
  | 43 => ⟨S_, .f32⟩
  | 44 => ⟨S128x16x128, .f32⟩
  | 45 => ⟨S128x16x128, .f32⟩
  | 46 => ⟨S128x16x128, .f32⟩
  | 47 => ⟨S128x16x128, .f32⟩
  | 48 => ⟨S128x16x128, .f32⟩
  | 49 => ⟨S128x16x128, .f32⟩
  | 50 => ⟨S_, .f32⟩
  | 51 => ⟨S128x16x128, .f32⟩
  | 52 => ⟨S128x16x128, .f32⟩
  | 53 => ⟨S_, .f32⟩
  | 54 => ⟨S128x16x128, .f32⟩
  | 55 => ⟨S128x16x128, .f32⟩
  | 56 => ⟨S128x16x128, .f32⟩
  | 57 => ⟨S128x16x128, .f32⟩
  | 58 => ⟨S768x512, .f32⟩
  | 59 => ⟨S128x16x512, .f32⟩
  | 60 => ⟨S1x1x512, .f32⟩
  | 61 => ⟨S128x16x512, .f32⟩
  | 62 => ⟨S128x16x512, .f32⟩
  | 63 => ⟨S128x16x128, .f32⟩
  | 64 => ⟨S128x16x128, .f32⟩
  | 65 => ⟨S128x16x128, .f32⟩
  | 66 => ⟨S128x16x128, .f32⟩
  | 67 => ⟨S128x16x128, .f32⟩
  | 68 => ⟨S128x16x128, .f32⟩
  | 69 => ⟨S_, .f32⟩
  | 70 => ⟨S128x16x128, .f32⟩
  | 71 => ⟨S128x16x128, .f32⟩
  | 72 => ⟨S_, .f32⟩
  | 73 => ⟨S128x16x128, .f32⟩
  | 74 => ⟨S128x16x128, .f32⟩
  | 75 => ⟨S128x16x128, .f32⟩
  | 76 => ⟨S128x16x128, .f32⟩
  | 77 => ⟨S128x16x128, .f32⟩
  | 78 => ⟨S128x16x128, .f32⟩
  | 79 => ⟨S_, .f32⟩
  | 80 => ⟨S128x16x128, .f32⟩
  | 81 => ⟨S128x16x128, .f32⟩
  | 82 => ⟨S_, .f32⟩
  | 83 => ⟨S128x16x128, .f32⟩
  | 84 => ⟨S128x16x128, .f32⟩
  | 85 => ⟨S128x16x128, .f32⟩
  | 86 => ⟨S128x16x128, .f32⟩
  | 87 => ⟨S128x16x256, .f32⟩
  | 88 => ⟨S_, .f32⟩
  | 89 => ⟨S128x256, .f32⟩
  | 90 => ⟨S_, .i32⟩
  | 91 => ⟨S128x16, .i32⟩
  | 92 => ⟨S128x16, .i1⟩
  | 93 => ⟨S_, .i32⟩
  | 94 => ⟨S128x16, .i32⟩
  | 95 => ⟨S128x16, .i32⟩
  | 96 => ⟨S128x16, .i32⟩
  | 97 => ⟨S128x16x1, .i32⟩
  | 98 => ⟨S128x16x768, .f32⟩
  | 99 => ⟨S768x512, .f32⟩
  | 100 => ⟨S128x16x512, .f32⟩
  | 101 => ⟨S1x1x512, .f32⟩
  | 102 => ⟨S128x16x512, .f32⟩
  | 103 => ⟨S128x16x512, .f32⟩
  | 104 => ⟨S128x16x128, .f32⟩
  | 105 => ⟨S128x16x128, .f32⟩
  | 106 => ⟨S128x16x128, .f32⟩
  | 107 => ⟨S128x16x128, .f32⟩
  | 108 => ⟨S128x16x128, .f32⟩
  | 109 => ⟨S128x16x128, .f32⟩
  | 110 => ⟨S_, .f32⟩
  | 111 => ⟨S128x16x128, .f32⟩
  | 112 => ⟨S128x16x128, .f32⟩
  | 113 => ⟨S_, .f32⟩
  | 114 => ⟨S128x16x128, .f32⟩
  | 115 => ⟨S128x16x128, .f32⟩
  | 116 => ⟨S128x16x128, .f32⟩
  | 117 => ⟨S128x16x128, .f32⟩
  | 118 => ⟨S128x16x128, .f32⟩
  | 119 => ⟨S128x16x128, .f32⟩
  | 120 => ⟨S_, .f32⟩
  | 121 => ⟨S128x16x128, .f32⟩
  | 122 => ⟨S128x16x128, .f32⟩
  | 123 => ⟨S_, .f32⟩
  | 124 => ⟨S128x16x128, .f32⟩
  | 125 => ⟨S128x16x128, .f32⟩
  | 126 => ⟨S128x16x128, .f32⟩
  | 127 => ⟨S128x16x128, .f32⟩
  | _ => ⟨S1x512x768, .f32⟩

abbrev hbmTy0_1 (i : Nat) : BufTy := match i % 128 with
  | 0 => ⟨S768x512, .f32⟩
  | 1 => ⟨S128x16x512, .f32⟩
  | 2 => ⟨S1x1x512, .f32⟩
  | 3 => ⟨S128x16x512, .f32⟩
  | 4 => ⟨S128x16x512, .f32⟩
  | 5 => ⟨S128x16x128, .f32⟩
  | 6 => ⟨S128x16x128, .f32⟩
  | 7 => ⟨S128x16x128, .f32⟩
  | 8 => ⟨S128x16x128, .f32⟩
  | 9 => ⟨S128x16x128, .f32⟩
  | 10 => ⟨S128x16x128, .f32⟩
  | 11 => ⟨S_, .f32⟩
  | 12 => ⟨S128x16x128, .f32⟩
  | 13 => ⟨S128x16x128, .f32⟩
  | 14 => ⟨S_, .f32⟩
  | 15 => ⟨S128x16x128, .f32⟩
  | 16 => ⟨S128x16x128, .f32⟩
  | 17 => ⟨S128x16x128, .f32⟩
  | 18 => ⟨S128x16x128, .f32⟩
  | 19 => ⟨S128x16x128, .f32⟩
  | 20 => ⟨S128x16x128, .f32⟩
  | 21 => ⟨S_, .f32⟩
  | 22 => ⟨S128x16x128, .f32⟩
  | 23 => ⟨S128x16x128, .f32⟩
  | 24 => ⟨S_, .f32⟩
  | 25 => ⟨S128x16x128, .f32⟩
  | 26 => ⟨S128x16x128, .f32⟩
  | 27 => ⟨S128x16x128, .f32⟩
  | 28 => ⟨S128x16x128, .f32⟩
  | 29 => ⟨S128x16x256, .f32⟩
  | 30 => ⟨S_, .f32⟩
  | 31 => ⟨S128x256, .f32⟩
  | 32 => ⟨S_, .i32⟩
  | 33 => ⟨S128x16, .i32⟩
  | 34 => ⟨S128x16, .i1⟩
  | 35 => ⟨S_, .i32⟩
  | 36 => ⟨S128x16, .i32⟩
  | 37 => ⟨S128x16, .i32⟩
  | 38 => ⟨S128x16, .i32⟩
  | 39 => ⟨S128x16x1, .i32⟩
  | 40 => ⟨S128x16x768, .f32⟩
  | 41 => ⟨S768x512, .f32⟩
  | 42 => ⟨S128x16x512, .f32⟩
  | 43 => ⟨S1x1x512, .f32⟩
  | 44 => ⟨S128x16x512, .f32⟩
  | 45 => ⟨S128x16x512, .f32⟩
  | 46 => ⟨S128x16x128, .f32⟩
  | 47 => ⟨S128x16x128, .f32⟩
  | 48 => ⟨S128x16x128, .f32⟩
  | 49 => ⟨S128x16x128, .f32⟩
  | 50 => ⟨S128x16x128, .f32⟩
  | 51 => ⟨S128x16x128, .f32⟩
  | 52 => ⟨S_, .f32⟩
  | 53 => ⟨S128x16x128, .f32⟩
  | 54 => ⟨S128x16x128, .f32⟩
  | 55 => ⟨S_, .f32⟩
  | 56 => ⟨S128x16x128, .f32⟩
  | 57 => ⟨S128x16x128, .f32⟩
  | 58 => ⟨S128x16x128, .f32⟩
  | 59 => ⟨S128x16x128, .f32⟩
  | 60 => ⟨S128x16x128, .f32⟩
  | 61 => ⟨S128x16x128, .f32⟩
  | 62 => ⟨S_, .f32⟩
  | 63 => ⟨S128x16x128, .f32⟩
  | 64 => ⟨S128x16x128, .f32⟩
  | 65 => ⟨S_, .f32⟩
  | 66 => ⟨S128x16x128, .f32⟩
  | 67 => ⟨S128x16x128, .f32⟩
  | 68 => ⟨S128x16x128, .f32⟩
  | 69 => ⟨S128x16x128, .f32⟩
  | 70 => ⟨S768x512, .f32⟩
  | 71 => ⟨S128x16x512, .f32⟩
  | 72 => ⟨S1x1x512, .f32⟩
  | 73 => ⟨S128x16x512, .f32⟩
  | 74 => ⟨S128x16x512, .f32⟩
  | 75 => ⟨S128x16x128, .f32⟩
  | 76 => ⟨S128x16x128, .f32⟩
  | 77 => ⟨S128x16x128, .f32⟩
  | 78 => ⟨S128x16x128, .f32⟩
  | 79 => ⟨S128x16x128, .f32⟩
  | 80 => ⟨S128x16x128, .f32⟩
  | 81 => ⟨S_, .f32⟩
  | 82 => ⟨S128x16x128, .f32⟩
  | 83 => ⟨S128x16x128, .f32⟩
  | 84 => ⟨S_, .f32⟩
  | 85 => ⟨S128x16x128, .f32⟩
  | 86 => ⟨S128x16x128, .f32⟩
  | 87 => ⟨S128x16x128, .f32⟩
  | 88 => ⟨S128x16x128, .f32⟩
  | 89 => ⟨S128x16x128, .f32⟩
  | 90 => ⟨S128x16x128, .f32⟩
  | 91 => ⟨S_, .f32⟩
  | 92 => ⟨S128x16x128, .f32⟩
  | 93 => ⟨S128x16x128, .f32⟩
  | 94 => ⟨S_, .f32⟩
  | 95 => ⟨S128x16x128, .f32⟩
  | 96 => ⟨S128x16x128, .f32⟩
  | 97 => ⟨S128x16x128, .f32⟩
  | 98 => ⟨S128x16x128, .f32⟩
  | 99 => ⟨S128x16x256, .f32⟩
  | 100 => ⟨S_, .f32⟩
  | 101 => ⟨S128x256, .f32⟩
  | 102 => ⟨S256x256x128, .f32⟩
  | 103 => ⟨S256x128x128, .f32⟩
  | 104 => ⟨S128x128x256, .f32⟩
  | 105 => ⟨S256x256x128, .f32⟩
  | 106 => ⟨S256x128x128, .f32⟩
  | 107 => ⟨S128x128x256, .f32⟩
  | 108 => ⟨S5x256x128x128, .f32⟩
  | 109 => ⟨S128x5x128x128, .f32⟩
  | 110 => ⟨S128x128x128x5, .f32⟩
  | _ => ⟨S1x512x768, .f32⟩

abbrev hbmTy (i : Nat) : BufTy := match i / 128 with
  | 0 => hbmTy0_0 i
  | 1 => hbmTy0_1 i
  | _ => ⟨S1x512x768, .f32⟩

abbrev bufTy : (tb : Table) → Fin (tcTables nBuf tb) → BufTy
  | .hbm, ⟨i, _⟩ => hbmTy i
  | _, _ => ⟨S1x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_c_9 : Ref sig .tc := ⟨.hbm, 90, rfl⟩
abbrev main_v60 : Ref sig .tc := ⟨.hbm, 91, rfl⟩
abbrev main_v61 : Ref sig .tc := ⟨.hbm, 92, rfl⟩
abbrev main_c_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_13 : Ref sig .tc := ⟨.hbm, 120, rfl⟩
abbrev main_v86 : Ref sig .tc := ⟨.hbm, 121, rfl⟩
abbrev main_v87 : Ref sig .tc := ⟨.hbm, 122, rfl⟩
abbrev main_cst_14 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_15 : Ref sig .tc := ⟨.hbm, 139, rfl⟩
abbrev main_v103 : Ref sig .tc := ⟨.hbm, 140, rfl⟩
abbrev main_v104 : Ref sig .tc := ⟨.hbm, 141, rfl⟩
abbrev main_cst_16 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_17 : Ref sig .tc := ⟨.hbm, 149, rfl⟩
abbrev main_v111 : Ref sig .tc := ⟨.hbm, 150, rfl⟩
abbrev main_v112 : Ref sig .tc := ⟨.hbm, 151, rfl⟩
abbrev main_cst_18 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_c_20 : Ref sig .tc := ⟨.hbm, 160, rfl⟩
abbrev main_v119 : Ref sig .tc := ⟨.hbm, 161, rfl⟩
abbrev main_v120 : Ref sig .tc := ⟨.hbm, 162, rfl⟩
abbrev main_c_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_22 : Ref sig .tc := ⟨.hbm, 180, rfl⟩
abbrev main_v137 : Ref sig .tc := ⟨.hbm, 181, rfl⟩
abbrev main_v138 : Ref sig .tc := ⟨.hbm, 182, rfl⟩
abbrev main_cst_23 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_24 : Ref sig .tc := ⟨.hbm, 190, rfl⟩
abbrev main_v145 : Ref sig .tc := ⟨.hbm, 191, rfl⟩
abbrev main_v146 : Ref sig .tc := ⟨.hbm, 192, rfl⟩
abbrev main_cst_25 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_26 : Ref sig .tc := ⟨.hbm, 209, rfl⟩
abbrev main_v162 : Ref sig .tc := ⟨.hbm, 210, rfl⟩
abbrev main_v163 : Ref sig .tc := ⟨.hbm, 211, rfl⟩
abbrev main_cst_27 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_28 : Ref sig .tc := ⟨.hbm, 219, rfl⟩
abbrev main_v170 : Ref sig .tc := ⟨.hbm, 220, rfl⟩
abbrev main_v171 : Ref sig .tc := ⟨.hbm, 221, rfl⟩
abbrev main_cst_29 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_30 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩

abbrev nD : Nat := 1
abbrev τ : Topo := Topo.v7x

variable {F : FTy → Type} [FloatOps F]
-- ==== Proof.Reals.lean ====
/-
  Extended reals that are real numbers, and the split product.

  A float is read here as an extended real. The kernel computes every product of two f32 matrices in three passes: it
  splits `a` into a high part (its bf16 rounding) and a low part (the bf16 rounding of what is left), and adds
  `high·high`, `high·low` and `low·high`. In exact arithmetic the high part is `a` itself and the low part is `a - a`, so the
  sum is the plain product exactly when every factor is a real number (`a - a` is not zero at an infinity).
-/
module

public import Idealize.ShloMosaic.PureOps.Ideal.Laws
public import Idealize.ShloMosaic.Lib.ValueIdxCore
public import Idealize.ShloMosaic.Lib.IdealHost

@[expose] public section

noncomputable section

namespace Cert.Opinion

open Idealize.ShloMosaic Idealize.ShloMosaic.ValueIdx
open scoped BigOperators

/-- `x` is a real number: neither infinity. -/
def IsReal (x : EReal) : Prop := ∃ r : ℝ, x = (r : EReal)

/-- Zero is a real number. -/
theorem isReal_zero : IsReal 0 := ⟨0, rfl⟩

/-- A sum of two real numbers is one. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is one. -/
theorem isReal_sum {ι : Type*} (s : Finset ι) (f : ι → EReal) (hf : ∀ i ∈ s, IsReal (f i)) : IsReal (∑ i ∈ s, f i) :=
  Finset.sum_induction f IsReal (fun _ _ => IsReal.add) isReal_zero hf

/-- A real number less itself is zero. -/
theorem IsReal.sub_self {x : EReal} (hx : IsReal x) : x - x = 0 := by
  obtain ⟨a, rfl⟩ := hx; rw [← EReal.coe_sub, _root_.sub_self, EReal.coe_zero]

/-- A real factor goes inside a sum of real numbers, on the right. -/
theorem sum_mul_of_isReal {ι : Type*} (s : Finset ι) (f : ι → EReal) (c : EReal) (hf : ∀ i, IsReal (f i)) (hc : IsReal c) :
    (∑ i ∈ s, f i) * c = ∑ i ∈ s, f i * c := by
  classical
  obtain ⟨c, rfl⟩ := hc
  induction s using Finset.induction_on with
  | empty => simp
  | insert a s ha ih =>
    rw [Finset.sum_insert ha, Finset.sum_insert ha, ← ih]
    obtain ⟨x, hx⟩ := hf a
    obtain ⟨y, hy⟩ := isReal_sum s f (fun i _ => hf i)
    rw [hx, hy, ← EReal.coe_add, ← EReal.coe_mul, ← EReal.coe_mul, ← EReal.coe_mul, ← EReal.coe_add, add_mul]

/-- `y` lies between −1 and 1, so it is a real number. -/
def Bounded (y : EReal) : Prop := ((-1 : ℝ) : EReal) ≤ y ∧ y ≤ ((1 : ℝ) : EReal)

/-- A bounded value is a real number. -/
theorem Bounded.isReal {y : EReal} (h : Bounded y) : IsReal y := by
  induction y using EReal.rec with
  | bot => exact absurd h.1 (not_le.mpr (EReal.bot_lt_coe _))
  | top => exact absurd h.2 (not_le.mpr (EReal.coe_lt_top _))
  | coe r => exact ⟨r, rfl⟩

/-- A product of two bounded values is bounded. -/
theorem Bounded.mul {x y : EReal} (hx : Bounded x) (hy : Bounded y) : Bounded (x * y) := by
  obtain ⟨a, rfl⟩ := hx.isReal; obtain ⟨b, rfl⟩ := hy.isReal
  obtain ⟨h1, h2⟩ := hx; obtain ⟨h3, h4⟩ := hy
  rw [EReal.coe_le_coe_iff] at h1 h2 h3 h4
  have h : |a * b| ≤ 1 := by
    rw [abs_mul]; exact mul_le_one₀ (abs_le.mpr ⟨h1, h2⟩) (abs_nonneg _) (abs_le.mpr ⟨h3, h4⟩)
  rw [← EReal.coe_mul]
  exact ⟨EReal.coe_le_coe_iff.mpr (abs_le.mp h).1, EReal.coe_le_coe_iff.mpr (abs_le.mp h).2⟩

/-- The hyperbolic tangent is bounded, at the infinities too. -/
theorem bounded_tanh (x : EReal) : Bounded (Ideal.tanh x) := by
  induction x using EReal.rec with
  | bot =>
    show Bounded (-1)
    rw [show (-1 : EReal) = ((-1 : ℝ) : EReal) by rw [EReal.coe_neg, EReal.coe_one]]
    exact ⟨le_refl _, EReal.coe_le_coe_iff.mpr (by norm_num)⟩
  | top =>
    show Bounded 1
    rw [show (1 : EReal) = ((1 : ℝ) : EReal) by norm_cast]
    exact ⟨EReal.coe_le_coe_iff.mpr (by norm_num), le_refl _⟩
  | coe r =>
    show Bounded (Real.tanh r : EReal)
    have h := Real.abs_tanh_lt_one r
    exact ⟨EReal.coe_le_coe_iff.mpr (abs_lt.mp h).1.le, EReal.coe_le_coe_iff.mpr (abs_lt.mp h).2.le⟩

/-- The logistic function is bounded, at the infinities too. -/
theorem bounded_logistic (x : EReal) : Bounded (Ideal.logistic x) := by
  have h0 : Bounded 0 := by
    rw [← EReal.coe_zero]
    exact ⟨EReal.coe_le_coe_iff.mpr (by norm_num), EReal.coe_le_coe_iff.mpr (by norm_num)⟩
  induction x using EReal.rec with
  | bot =>
    have : Ideal.logistic ⊥ = 0 := by
      have e : Ideal.exp ⊤ = ⊤ := rfl
      rw [Ideal.logistic, EReal.neg_bot, e, EReal.add_top_of_ne_bot (by rw [← EReal.coe_one]; exact EReal.coe_ne_bot _), Ideal.div, if_neg (by simp), EReal.inv_top, mul_zero]
    rw [this]; exact h0
  | top =>
    have : Ideal.logistic ⊤ = ((1 : ℝ) : EReal) := by
      have e : Ideal.exp ⊥ = 0 := rfl
      have i : (1 : EReal)⁻¹ = 1 := by rw [← EReal.coe_one, ← EReal.coe_inv, inv_one]
      rw [Ideal.logistic, EReal.neg_top, e, add_zero, Ideal.div, if_neg one_ne_zero, one_mul, i, EReal.coe_one]
    rw [this]
    exact ⟨EReal.coe_le_coe_iff.mpr (by norm_num), le_refl _⟩
  | coe r =>
    have hp : (0 : ℝ) < 1 + Real.exp (-r) := by positivity
    have : Ideal.logistic (r : EReal) = ((1 + Real.exp (-r))⁻¹ : ℝ) := by
      have e : (1 : EReal) + Ideal.exp (-(r : EReal)) = ((1 + Real.exp (-r) : ℝ) : EReal) := by
        rw [← EReal.coe_neg]; show (1 : EReal) + (Real.exp (-r) : EReal) = _; push_cast; rfl
      rw [Ideal.logistic, e, Ideal.div, if_neg (by exact_mod_cast hp.ne'), one_mul, EReal.coe_inv]
    rw [this]
    have hi : (1 + Real.exp (-r))⁻¹ ≤ 1 := inv_le_one_of_one_le₀ (by linarith [Real.exp_pos (-r)])
    have hn : (0 : ℝ) ≤ (1 + Real.exp (-r))⁻¹ := by positivity
    exact ⟨EReal.coe_le_coe_iff.mpr (by linarith), EReal.coe_le_coe_iff.mpr hi⟩

/-- The fold of `max` from −∞ over a nonempty range of bounded values is a real number. -/
theorem isReal_fold_max {n : ℕ} (f : Fin (n + 1) → EReal) (hf : ∀ i, Bounded (f i)) :
    IsReal ((Finset.univ : Finset (Fin (n + 1))).fold max ⊥ f) := by
  have hub : (Finset.univ : Finset (Fin (n + 1))).fold max ⊥ f ≤ ((1 : ℝ) : EReal) :=
    (Finset.fold_max_le _).mpr ⟨bot_le, fun i _ => (hf i).2⟩
  have hlb : ((-1 : ℝ) : EReal) ≤ (Finset.univ : Finset (Fin (n + 1))).fold max ⊥ f :=
    (Finset.le_fold_max _).mpr (.inr ⟨0, Finset.mem_univ _, (hf 0).1⟩)
  exact Bounded.isReal ⟨hlb, hub⟩

/-! ## The split product -/

section Split
variable {sl sr so : Shape}

/-- The high part of an f32 array: its rounding to bf16. -/
def hi {s : Shape} (x : FVec Ideal s .f32) : FVec Ideal s .bf16 := truncf .bf16 x (by decide)

/-- The low part: what the high part leaves, rounded to bf16. -/
def lo {s : Shape} (x : FVec Ideal s .f32) : FVec Ideal s .bf16 :=
  truncf .bf16 (subf x (extf .f32 (hi x) (by decide))) (by decide)

/-- The three passes of a split product, of the parts of the two operands. -/
def passes (d : DotDims sl sr so) (ah al : FVec Ideal sl .bf16) (bh bl : FVec Ideal sr .bf16) : FVec Ideal so .f32 :=
  addf (addf (matmul d none ah bh (constant so .f32 0x00000000#32)) (matmul d none ah bl (constant so .f32 0x00000000#32)))
    (matmul d none al bh (constant so .f32 0x00000000#32))

/-- A product with a zero accumulator, read at an index: the sum over the contracted positions. -/
theorem matmul_zero_apply {φ₁ φ₂ : FTy} (d : DotDims sl sr so) (a : FVec Ideal sl φ₁) (b : FVec Ideal sr φ₂) (j : so.Idx) :
    matmul d none a b (constant so .f32 0x00000000#32) j = ∑ k : d.contr.Idx, a (d.lhsIdx j k) * b (d.rhsIdx j k) := by
  show Ideal.ofBits .f32 0x00000000#32 + ∑ k : d.contr.Idx, a (d.lhsIdx j k) * b (d.rhsIdx j k) = _
  rw [Ideal.ofBits_zero_f32, zero_add]

/-- The low part of an array of real numbers is zero. -/
theorem lo_apply {s : Shape} {x : FVec Ideal s .f32} (hx : ∀ i, IsReal (x i)) (i : s.Idx) : lo x i = 0 := (hx i).sub_self

/-- A split product of arrays of real numbers is the plain product. -/
theorem passes_apply (d : DotDims sl sr so) (a : FVec Ideal sl .f32) (b : FVec Ideal sr .f32)
    (ha : ∀ i, IsReal (a i)) (hb : ∀ i, IsReal (b i)) (j : so.Idx) :
    passes d (hi a) (lo a) (hi b) (lo b) j = ∑ k : d.contr.Idx, a (d.lhsIdx j k) * b (d.rhsIdx j k) := by
  show (matmul d none (hi a) (hi b) _ j + matmul d none (hi a) (lo b) _ j) + matmul d none (lo a) (hi b) _ j = _
  rw [matmul_zero_apply, matmul_zero_apply, matmul_zero_apply]
  have h1 : ∀ k : d.contr.Idx, hi a (d.lhsIdx j k) * lo b (d.rhsIdx j k) = 0 := fun k => by rw [lo_apply hb, mul_zero]
  have h2 : ∀ k : d.contr.Idx, lo a (d.lhsIdx j k) * hi b (d.rhsIdx j k) = 0 := fun k => by rw [lo_apply ha, zero_mul]
  rw [Finset.sum_congr rfl fun k _ => h1 k, Finset.sum_congr rfl fun k _ => h2 k, Finset.sum_const_zero, add_zero, add_zero]
  rfl

/-- The sum over a one-axis contraction, over the axis's coordinate, its factors named. -/
theorem sum_contr {n : ℕ} (d : DotDims sl sr so) (hr : d.contr.rank = 1) (hs : d.contr.size ⟨0, by omega⟩ = n)
    (f : d.contr.Idx → EReal) (g : Fin n → EReal)
    (h : ∀ (q : d.contr.Idx) (k : Fin n), (q ⟨0, by omega⟩).val = k.val → f q = g k) :
    ∑ q : d.contr.Idx, f q = ∑ k : Fin n, g k := by
  rw [← Equiv.sum_comp (contrEquiv1 d n hr hs).symm]
  exact Finset.sum_congr rfl fun k _ => h _ k (contrEquiv1_symm_val d n hr hs k)

end Split

end Cert.Opinion

end
-- ==== Proof.Spec.lean ====
/-
  The values both programs compute, as plain tables: the pooled state of one group of spans, the two pair tables, and
  the prediction; and their being real numbers.
-/
module

public import proofs.«01_k».proof.Proof.Reals

@[expose] public section

set_option maxRecDepth 16384

noncomputable section

namespace Cert.Opinion

open Idealize.ShloMosaic Idealize.ShloMosaic.ValueIdx
open scoped BigOperators

/-- The row of the sequence an index names. -/
def rowOf (i : BitVec 32) : Fin 512 := ⟨i.toNat % 512, Nat.mod_lt _ (by decide)⟩

/-- One gate before its nonlinearity: row `r` of the encoded sequence against row `q` of the weights, plus the bias. -/
def gate (E : Fin 512 → Fin 768 → EReal) (W : Fin 512 → Fin 768 → EReal) (b : Fin 512 → EReal) (r q : Fin 512) : EReal :=
  (∑ k : Fin 768, E r k * W q k) + b q

/-- The hidden state at unit `u`, from the row of gates. -/
def cell (g : Fin 512 → EReal) (u : Fin 128) : EReal :=
  Ideal.logistic (g ⟨384 + u.val, by omega⟩)
    * Ideal.tanh (Ideal.logistic (g ⟨u.val, by omega⟩) * Ideal.tanh (g ⟨256 + u.val, by omega⟩))

/-- The two directions' states side by side: the forward 128 units, then the backward 128. -/
def state (E : Fin 512 → Fin 768 → EReal) (Wf : Fin 512 → Fin 768 → EReal) (bf : Fin 512 → EReal)
    (Wb : Fin 512 → Fin 768 → EReal) (bb : Fin 512 → EReal) (r : Fin 512) (q : Fin 256) : EReal :=
  if h : q.val < 128 then cell (gate E Wf bf r) ⟨q.val, h⟩ else cell (gate E Wb bb r) ⟨q.val - 128, by omega⟩

theorem state_left (E : Fin 512 → Fin 768 → EReal) (Wf : Fin 512 → Fin 768 → EReal) (bf : Fin 512 → EReal)
    (Wb : Fin 512 → Fin 768 → EReal) (bb : Fin 512 → EReal) (r : Fin 512) (q : Fin 256) (h : q.val < 128) :
    state E Wf bf Wb bb r q = cell (gate E Wf bf r) ⟨q.val, h⟩ := dif_pos h

theorem state_right (E : Fin 512 → Fin 768 → EReal) (Wf : Fin 512 → Fin 768 → EReal) (bf : Fin 512 → EReal)
    (Wb : Fin 512 → Fin 768 → EReal) (bb : Fin 512 → EReal) (r : Fin 512) (q : Fin 256) (h : ¬q.val < 128) :
    state E Wf bf Wb bb r q = cell (gate E Wb bb r) ⟨q.val - 128, by omega⟩ := dif_neg h

/-- A hidden state lies between −1 and 1, whatever its gates. -/
theorem bounded_cell (g : Fin 512 → EReal) (u : Fin 128) : Bounded (cell g u) := (bounded_logistic _).mul (bounded_tanh _)

theorem bounded_state (E : Fin 512 → Fin 768 → EReal) (Wf : Fin 512 → Fin 768 → EReal) (bf : Fin 512 → EReal)
    (Wb : Fin 512 → Fin 768 → EReal) (bb : Fin 512 → EReal) (r : Fin 512) (q : Fin 256) : Bounded (state E Wf bf Wb bb r q) := by
  unfold state; split <;> exact bounded_cell _ _

/-- The pooled state of span `n` at unit `q`: the largest of its sixteen tokens' states. -/
def pooled (idx : Fin 128 → Fin 16 → BitVec 32) (E : Fin 512 → Fin 768 → EReal) (Wf : Fin 512 → Fin 768 → EReal)
    (bf : Fin 512 → EReal) (Wb : Fin 512 → Fin 768 → EReal) (bb : Fin 512 → EReal) (n : Fin 128) (q : Fin 256) : EReal :=
  Finset.univ.fold max ⊥ fun s : Fin 16 => state E Wf bf Wb bb (rowOf (idx n s)) q

/-- A pooled state is a real number. -/
theorem isReal_pooled (idx : Fin 128 → Fin 16 → BitVec 32) (E : Fin 512 → Fin 768 → EReal) (Wf : Fin 512 → Fin 768 → EReal)
    (bf : Fin 512 → EReal) (Wb : Fin 512 → Fin 768 → EReal) (bb : Fin 512 → EReal) (n : Fin 128) (q : Fin 256) :
    IsReal (pooled idx E Wf bf Wb bb n q) := isReal_fold_max _ fun _ => bounded_state _ _ _ _ _ _ _

/-- A pair table at (b, k, i): `∑ c, Ee[k,c] · ∑ a, H[i,a] · T[a,b,c]`. -/
def pairOf (Ee H : Fin 128 → Fin 256 → EReal) (T : Fin 256 → Fin 256 → Fin 256 → EReal) (b : Fin 256) (k i : Fin 128) : EReal :=
  ∑ c : Fin 256, Ee k c * ∑ a : Fin 256, H i a * T a b c

theorem isReal_pairOf {Ee H : Fin 128 → Fin 256 → EReal} {T : Fin 256 → Fin 256 → Fin 256 → EReal} (hE : ∀ k c, IsReal (Ee k c))
    (hH : ∀ i a, IsReal (H i a)) (hT : ∀ a b c, IsReal (T a b c)) (b : Fin 256) (k i : Fin 128) : IsReal (pairOf Ee H T b k i) :=
  isReal_sum _ _ fun c _ => (hE k c).mul (isReal_sum _ _ fun a _ => (hH i a).mul (hT a b c))

/-- The prediction at (i, j, k, m), from the two pair tables: `∑ b, (∑ c, Tc[b,m,c] · P[c,k,i]) · Q[b,k,j]`. -/
def predOf (Tc : Fin 256 → Fin 5 → Fin 256 → EReal) (P Q : Fin 256 → Fin 128 → Fin 128 → EReal) (i j k : Fin 128) (m : Fin 5) : EReal :=
  ∑ b : Fin 256, (∑ c : Fin 256, Tc b m c * P c k i) * Q b k j

/-- The prediction with its two sums the other way round. -/
theorem predOf_swap {Tc : Fin 256 → Fin 5 → Fin 256 → EReal} {P Q : Fin 256 → Fin 128 → Fin 128 → EReal}
    (hT : ∀ b m c, IsReal (Tc b m c)) (hP : ∀ c k i, IsReal (P c k i)) (hQ : ∀ b k j, IsReal (Q b k j)) (i j k : Fin 128) (m : Fin 5) :
    predOf Tc P Q i j k m = ∑ c : Fin 256, (∑ b : Fin 256, Tc b m c * Q b k j) * P c k i := by
  unfold predOf
  have h1 : ∀ b : Fin 256, (∑ c : Fin 256, Tc b m c * P c k i) * Q b k j = ∑ c : Fin 256, Tc b m c * P c k i * Q b k j :=
    fun b => sum_mul_of_isReal _ _ _ (fun c => (hT b m c).mul (hP c k i)) (hQ b k j)
  have h2 : ∀ c : Fin 256, (∑ b : Fin 256, Tc b m c * Q b k j) * P c k i = ∑ b : Fin 256, Tc b m c * Q b k j * P c k i :=
    fun c => sum_mul_of_isReal _ _ _ (fun b => (hT b m c).mul (hQ b k j)) (hP c k i)
  rw [Finset.sum_congr rfl fun b _ => h1 b, Finset.sum_congr rfl fun c _ => h2 c, Finset.sum_comm]
  exact Finset.sum_congr rfl fun c _ => Finset.sum_congr rfl fun b _ => mul_right_comm _ _ _

end Cert.Opinion

end
-- ==== Proof.Pool.lean ====
/-
  What the first pipeline's body stores for one group of spans: the pooled states.
-/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.Opinion

open Idealize.ShloMosaic Idealize.ShloMosaic.ValueIdx Cert.KernelIdeal Cert.KernelIdeal.Gen
open scoped BigOperators

/-- The sum of the projection's product, rows against rows, at (r, q). -/
theorem sum_proj (A B : S512x768.Idx → EReal) (j : S512x512.Idx) :
    (∑ q, A (dot_S512x768_S512x768_S512x512_1_1_0_0_n_n.lhsIdx j q) * B (dot_S512x768_S512x768_S512x512_1_1_0_0_n_n.rhsIdx j q))
      = ∑ k : Fin 768, A (ix2 (j 0) k) * B (ix2 (j 1) k) := by
  refine sum_contr (n := 768) _ rfl rfl _ _ fun q c hq => ?_
  have el : dot_S512x768_S512x768_S512x512_1_1_0_0_n_n.lhsIdx j q = ix2 (j 0) c := by
    funext b; apply Fin.ext
    match b with
    | ⟨0, _⟩ => rfl
    | ⟨1, _⟩ => exact hq
  have er : dot_S512x768_S512x768_S512x512_1_1_0_0_n_n.rhsIdx j q = ix2 (j 1) c := by
    funext b; apply Fin.ext
    match b with
    | ⟨0, _⟩ => rfl
    | ⟨1, _⟩ => exact hq
  exact congrArg₂ (· * ·) (congrArg A el) (congrArg B er)

/-- The sum of the row selection's product at (r, q). -/
theorem sum_select (A : S2048x512.Idx → EReal) (B : S512x512.Idx → EReal) (j : S2048x512.Idx) :
    (∑ q, A (dot_S2048x512_S512x512_S2048x512_1_0_0_1_n_n.lhsIdx j q) * B (dot_S2048x512_S512x512_S2048x512_1_0_0_1_n_n.rhsIdx j q))
      = ∑ k : Fin 512, A (ix2 (j 0) k) * B (ix2 k (j 1)) := by
  refine sum_contr (n := 512) _ rfl rfl _ _ fun q c hq => ?_
  have el : dot_S2048x512_S512x512_S2048x512_1_0_0_1_n_n.lhsIdx j q = ix2 (j 0) c := by
    funext b; apply Fin.ext
    match b with
    | ⟨0, _⟩ => rfl
    | ⟨1, _⟩ => exact hq
  have er : dot_S2048x512_S512x512_S2048x512_1_0_0_1_n_n.rhsIdx j q = ix2 c (j 1) := by
    funext b; apply Fin.ext
    match b with
    | ⟨0, _⟩ => exact hq
    | ⟨1, _⟩ => rfl
  exact congrArg₂ (· * ·) (congrArg A el) (congrArg B er)

/-- The table with a one where the column is the row's index, zero elsewhere. -/
def pick (idx : IVec S2048x1 32) : FVec Ideal S2048x512 .bf16 :=
  truncf .bf16 (sitofp .f32 (extui 32 (cmpi .eq (iota .tc S2048x512 32 [1] iota_S2048x512_d1_w32)
    (broadcastTo S2048x512 (shapeCast S2048x1 idx shapeCasts_S2048x1_S2048x1) broadcasts_S2048x1_S2048x512)) natLt_1_32)) bitsLt_bf16_f32

/-- The bit of an equality of words, widened and read as a number. -/
theorem bit_value (a b : BitVec 32) :
    (((BitVec.setWidth 32 (IntOp.cmpi .eq a b)).toInt : ℝ) : EReal) = if a = b then 1 else 0 := by
  have hc : IntOp.cmpi .eq a b = BitVec.ofBool (a == b) := rfl
  rw [hc]
  by_cases h : a = b
  · rw [if_pos h, beq_iff_eq.2 h]
    have : (BitVec.setWidth 32 (BitVec.ofBool true)).toInt = 1 := by decide
    rw [this, Int.cast_one, EReal.coe_one]
  · rw [if_neg h, beq_eq_false_iff_ne.2 h]
    have : (BitVec.setWidth 32 (BitVec.ofBool false)).toInt = 0 := by decide
    rw [this, Int.cast_zero, EReal.coe_zero]

theorem pick_apply (idx : IVec S2048x1 32) (j : S2048x512.Idx) :
    pick idx j = if BitVec.ofNat 32 (j 1).val = idx (ix2 (j 0) 0) then 1 else 0 := by
  have hb : broadcastTo S2048x512 (shapeCast S2048x1 idx shapeCasts_S2048x1_S2048x1) broadcasts_S2048x1_S2048x512 j = idx (ix2 (j 0) 0) := by
    rw [shapeCast_self]
    refine broadcastTo_apply idx _ j (ix2 (j 0) 0 : S2048x1.Idx) fun a => ?_
    match a with
    | ⟨0, _⟩ => rfl
    | ⟨1, _⟩ => rfl
  have hi : iota .tc S2048x512 32 [1] iota_S2048x512_d1_w32 j = BitVec.ofNat 32 (j 1).val := iota_single_apply _ _ _ _ _ j
  refine Eq.trans ?_ (bit_value (BitVec.ofNat 32 (j 1).val) (idx (ix2 (j 0) 0)))
  exact congrArg₂ (fun a b : BitVec 32 => (((BitVec.setWidth 32 (IntOp.cmpi .eq a b)).toInt : ℝ) : EReal)) hi hb

/-- The projection of the whole sequence by one direction's weights. -/
def proj (E W : FVec Ideal S512x768 .f32) : FVec Ideal S512x512 .f32 :=
  passes dot_S512x768_S512x768_S512x512_1_1_0_0_n_n (hi E) (lo E) (hi W) (lo W)

/-- The gates of every token. -/
def gates (idx : IVec S2048x1 32) (P : FVec Ideal S512x512 .f32) (b : FVec Ideal S1x512 .f32) : FVec Ideal S2048x512 .f32 :=
  addf (addf (matmul dot_S2048x512_S512x512_S2048x512_1_0_0_1_n_n none (pick idx) (hi P) (constant S2048x512 .f32 0x00000000#32))
      (matmul dot_S2048x512_S512x512_S2048x512_1_0_0_1_n_n none (pick idx) (lo P) (constant S2048x512 .f32 0x00000000#32)))
    (broadcastTo S2048x512 (shapeCast S1x512 b shapeCasts_S1x512_S1x512) broadcasts_S1x512_S2048x512)

/-- The hidden states of every token, one direction. -/
def hidden (g : FVec Ideal S2048x512 .f32) : FVec Ideal S2048x128 .f32 :=
  mulf (logistic (extractStridedSlice S2048x128 ![0, 384] g slices_S2048x512_o0_384_S2048x128))
    (tanh (mulf (logistic (extractStridedSlice S2048x128 ![0, 0] g slices_S2048x512_o0_0_S2048x128))
      (tanh (extractStridedSlice S2048x128 ![0, 256] g slices_S2048x512_o0_256_S2048x128))))

/-- The two directions pooled. -/
def poolBlk (hf hb : FVec Ideal S2048x128 .f32) : FVec Ideal S1x128x256 .f32 :=
  shapeCast S1x128x256 (multiReduction .maximumf [1] S128x256
    (shapeCast S128x16x256 (concatenate S2048x256 1 [⟨S2048x128, hf⟩, ⟨S2048x128, hb⟩] concatenates_S2048x128_S2048x128_S2048x256_d1)
      shapeCasts_S2048x256_S128x16x256) 0xFF800000#32 reduces_S128x16x256_S128x256 (.inl rfl) rfl) shapeCasts_S128x256_S1x128x256

/-- The projection at (r, q). -/
theorem proj_apply {E W : FVec Ideal S512x768 .f32} (hE : ∀ i, IsReal (E i)) (hW : ∀ i, IsReal (W i)) (j : S512x512.Idx) :
    proj E W j = ∑ k : Fin 768, E (ix2 (j 0) k) * W (ix2 (j 1) k) := by
  rw [proj, passes_apply _ _ _ hE hW, sum_proj]

theorem isReal_proj {E W : FVec Ideal S512x768 .f32} (hE : ∀ i, IsReal (E i)) (hW : ∀ i, IsReal (W i)) (j : S512x512.Idx) :
    IsReal (proj E W j) := by
  rw [proj_apply hE hW]; exact isReal_sum _ _ fun k _ => (hE _).mul (hW _)

/-- A row of ones and zeros with its one at a row's index picks that row. -/
theorem sum_pick (i : BitVec 32) (h : i.toNat < 512) (f : Fin 512 → EReal) :
    (∑ k : Fin 512, (if BitVec.ofNat 32 k.val = i then (1 : EReal) else 0) * f k) = f (rowOf i) := by
  have hr : (rowOf i).val = i.toNat := Nat.mod_eq_of_lt h
  rw [Finset.sum_eq_single (rowOf i)]
  · rw [if_pos, one_mul]
    rw [hr]; exact BitVec.ofNat_toNat ..
  · intro k _ hk
    rw [if_neg, zero_mul]
    intro he
    refine hk (Fin.ext ?_)
    rw [hr, ← he, BitVec.toNat_ofNat]
    have := k.isLt
    exact (Nat.mod_eq_of_lt (by omega)).symm
  · intro hn; exact absurd (Finset.mem_univ _) hn

/-- The gates of token `r`, where its index is in range: the projection's row of that index, plus the bias. -/
theorem gates_apply {idx : IVec S2048x1 32} {P : FVec Ideal S512x512 .f32} {b : FVec Ideal S1x512 .f32}
    (hP : ∀ i, IsReal (P i)) (j : S2048x512.Idx) (hidx : (idx (ix2 (j 0) 0)).toNat < 512) :
    gates idx P b j = P (ix2 (rowOf (idx (ix2 (j 0) 0))) (j 1)) + b (ix2 0 (j 1)) := by
  have hb : broadcastTo S2048x512 (shapeCast S1x512 b shapeCasts_S1x512_S1x512) broadcasts_S1x512_S2048x512 j = b (ix2 0 (j 1)) := by
    rw [shapeCast_self]
    refine broadcastTo_apply b _ j (ix2 0 (j 1) : S1x512.Idx) fun a => ?_
    match a with
    | ⟨0, _⟩ => rfl
    | ⟨1, _⟩ => rfl
  have h1 : matmul dot_S2048x512_S512x512_S2048x512_1_0_0_1_n_n none (pick idx) (hi P) (constant S2048x512 .f32 0x00000000#32) j
      = P (ix2 (rowOf (idx (ix2 (j 0) 0))) (j 1)) := by
    refine (matmul_zero_apply _ (pick idx) (hi P) j).trans ((sum_select (pick idx) (hi P) j).trans ?_)
    refine Eq.trans (Finset.sum_congr rfl fun k _ => ?_) (sum_pick (idx (ix2 (j 0) 0)) hidx fun k => P (ix2 k (j 1)))
    exact congrArg (· * P (ix2 k (j 1))) (pick_apply idx (ix2 (j 0) k))
  have h2 : matmul dot_S2048x512_S512x512_S2048x512_1_0_0_1_n_n none (pick idx) (lo P) (constant S2048x512 .f32 0x00000000#32) j = 0 := by
    refine (matmul_zero_apply _ (pick idx) (lo P) j).trans ?_
    exact Finset.sum_eq_zero fun k _ => by rw [lo_apply hP, mul_zero]
  have hs : gates idx P b j
      = (matmul dot_S2048x512_S512x512_S2048x512_1_0_0_1_n_n none (pick idx) (hi P) (constant S2048x512 .f32 0x00000000#32) j
        + matmul dot_S2048x512_S512x512_S2048x512_1_0_0_1_n_n none (pick idx) (lo P) (constant S2048x512 .f32 0x00000000#32) j)
        + broadcastTo S2048x512 (shapeCast S1x512 b shapeCasts_S1x512_S1x512) broadcasts_S1x512_S2048x512 j := rfl
  rw [hs, h1, h2, hb, add_zero]

/-- A hidden state from the row of gates. -/
theorem hidden_apply (g : FVec Ideal S2048x512 .f32) (r : Fin 2048) (u : Fin 128) :
    hidden g (ix2 r u) = cell (fun q => g (ix2 r q)) u := by
  have hs : ∀ (off : ℕ) (h : S2048x512.Slices ![0, off] S2048x128) (q : Fin 512), q.val = off + u.val →
      extractStridedSlice S2048x128 ![0, off] g h (ix2 r u) = g (ix2 r q) := fun off h q hq =>
    extractStridedSlice_apply _ g h _ _ fun a => by
      match a with
      | ⟨0, _⟩ => exact (Nat.zero_add _).symm
      | ⟨1, _⟩ => exact hq
  have e0 := hs 0 slices_S2048x512_o0_0_S2048x128 ⟨u.val, by omega⟩ (Nat.zero_add _).symm
  have e1 := hs 256 slices_S2048x512_o0_256_S2048x128 ⟨256 + u.val, by omega⟩ rfl
  have e2 := hs 384 slices_S2048x512_o0_384_S2048x128 ⟨384 + u.val, by omega⟩ rfl
  exact congrArg₂ (· * ·) (congrArg Ideal.logistic e2)
    (congrArg Ideal.tanh (congrArg₂ (· * ·) (congrArg Ideal.logistic e0) (congrArg Ideal.tanh e1)))

theorem ofBits_neg_inf : Ideal.ofBits .f32 0xFF800000#32 = ⊥ := by simp [Ideal.ofBits, Ideal.ieee]

/-- The pooled block at (n, q): the largest, over the span's sixteen tokens, of the two directions' states side by side. -/
theorem poolBlk_apply (hf hb : FVec Ideal S2048x128 .f32) (y : S1x128x256.Idx) :
    poolBlk hf hb y = Finset.univ.fold max ⊥ fun s : Fin 16 =>
      if h : (y 2).val < 128 then hf (ix2 ⟨(y 1).val * 16 + s.val, by have : (y 1).val < 128 := (y 1).isLt; omega⟩ ⟨(y 2).val, h⟩)
      else hb (ix2 ⟨(y 1).val * 16 + s.val, by have : (y 1).val < 128 := (y 1).isLt; omega⟩
        ⟨(y 2).val - 128, by have : (y 2).val < 256 := (y 2).isLt; omega⟩) := by
  have h0 : (y 0).val < 1 := (y 0).isLt
  have h1 : (y 1).val < 128 := (y 1).isLt
  have h2 : (y 2).val < 256 := (y 2).isLt
  have hc : poolBlk hf hb y = multiReduction .maximumf [1] S128x256
      (shapeCast S128x16x256 (concatenate S2048x256 1 [⟨S2048x128, hf⟩, ⟨S2048x128, hb⟩] concatenates_S2048x128_S2048x128_S2048x256_d1)
      shapeCasts_S2048x256_S128x16x256) 0xFF800000#32 reduces_S128x16x256_S128x256 (.inl rfl) rfl (ix2 (y 1) (y 2)) :=
    shapeCast_apply _ _ y (ix2 (y 1) (y 2) : S128x256.Idx) (by
      rw [Shape.rowMajor_val_two, Shape.rowMajor_val_three]
      show (y 1).val * 256 + (y 2).val = ((y 0).val * 128 + (y 1).val) * 256 + (y 2).val
      omega)
  refine hc.trans ((Ideal.multiReduction_maximumf_single (a := 1) _ _ reduces_S128x16x256_S128x256 _ _ (ix2 (y 1) (y 2))).trans ?_)
  rw [show FloatOps.ofBits (F := Ideal) .f32 0xFF800000#32 = ⊥ from ofBits_neg_inf]
  refine congrArg (Finset.univ.fold max ⊥) (funext fun s : Fin 16 => ?_)
  have hl : reduces_S128x16x256_S128x256.lift (ix2 (y 1) (y 2)) s = ix3 (y 1) s (y 2) := by
    funext a; apply Fin.ext
    match a with
    | ⟨0, _⟩ => rfl
    | ⟨1, _⟩ => rfl
    | ⟨2, _⟩ => rfl
  have hc2 := shapeCast_apply (concatenate S2048x256 1 [⟨S2048x128, hf⟩, ⟨S2048x128, hb⟩] concatenates_S2048x128_S2048x128_S2048x256_d1)
    shapeCasts_S2048x256_S128x16x256 (ix3 (y 1) s (y 2) : S128x16x256.Idx)
    (ix2 ⟨(y 1).val * 16 + s.val, by omega⟩ (y 2) : S2048x256.Idx) (by
      rw [Shape.rowMajor_val_two, Shape.rowMajor_val_three]; rfl)
  refine (congrArg _ hl).trans (hc2.trans ?_)
  split
  next h =>
    refine concatenate_pair_apply_left (1 : Fin S2048x256.rank) hf hb concatenates_S2048x128_S2048x128_S2048x256_d1 _ rfl
      (ix2 ⟨(y 1).val * 16 + s.val, by omega⟩ ⟨(y 2).val, h⟩ : S2048x128.Idx) fun b => ?_
    match b with
    | ⟨0, _⟩ => rfl
    | ⟨1, _⟩ => rfl
  next h =>
    refine concatenate_pair_apply_right (1 : Fin S2048x256.rank) hf hb concatenates_S2048x128_S2048x128_S2048x256_d1 _ rfl rfl
      (ix2 ⟨(y 1).val * 16 + s.val, by omega⟩ ⟨(y 2).val - 128, by omega⟩ : S2048x128.Idx) (fun b hb => ?_) ?_
    · match b with
      | ⟨0, _⟩ => rfl
      | ⟨1, _⟩ => exact absurd rfl hb
    · show (y 2).val - 128 + 128 = (y 2).val; omega

/-- A group's block from its indices, the sequence, and the two directions' weights and biases. -/
def poolAll (idx : IVec S2048x1 32) (E Wf : FVec Ideal S512x768 .f32) (bf : FVec Ideal S1x512 .f32) (Wb : FVec Ideal S512x768 .f32)
    (bb : FVec Ideal S1x512 .f32) : FVec Ideal S1x128x256 .f32 :=
  poolBlk (hidden (gates idx (proj (shapeCast S512x768 E shapeCasts_S512x768_S512x768) Wf) bf))
    (hidden (gates idx (proj (shapeCast S512x768 E shapeCasts_S512x768_S512x768) Wb) bb))

/-- A group's block at (n, q), of indices in range and real operands: the pooled state. -/
theorem poolAll_apply {idx : IVec S2048x1 32} {E Wf : FVec Ideal S512x768 .f32} {bf : FVec Ideal S1x512 .f32}
    {Wb : FVec Ideal S512x768 .f32} {bb : FVec Ideal S1x512 .f32} (hidx : ∀ i, (idx i).toNat < 512) (hE : ∀ i, IsReal (E i))
    (hWf : ∀ i, IsReal (Wf i)) (hWb : ∀ i, IsReal (Wb i)) (y : S1x128x256.Idx) :
    poolAll idx E Wf bf Wb bb y = pooled (fun n s => idx (ix2 ⟨n.val * 16 + s.val, by omega⟩ 0)) (fun r k => E (ix2 r k))
      (fun q k => Wf (ix2 q k)) (fun q => bf (ix2 0 q)) (fun q k => Wb (ix2 q k)) (fun q => bb (ix2 0 q)) (y 1) (y 2) := by
  have hh : ∀ (W : FVec Ideal S512x768 .f32) (b : FVec Ideal S1x512 .f32) (_ : ∀ i, IsReal (W i)) (r : Fin 2048) (u : Fin 128),
      hidden (gates idx (proj (shapeCast S512x768 E shapeCasts_S512x768_S512x768) W) b) (ix2 r u)
        = cell (gate (fun r k => E (ix2 r k)) (fun q k => W (ix2 q k)) (fun q => b (ix2 0 q)) (rowOf (idx (ix2 r 0)))) u := by
    intro W b hW r u
    rw [shapeCast_self, hidden_apply]
    refine congrArg (cell · u) (funext fun q => ?_)
    refine (gates_apply (isReal_proj hE hW) (ix2 r q) (hidx _)).trans ?_
    exact congrArg (· + b (ix2 0 q)) (proj_apply hE hW _)
  rw [poolAll, poolBlk_apply]
  refine congrArg (Finset.univ.fold max ⊥) (funext fun s : Fin 16 => ?_)
  by_cases h : (y 2).val < 128
  · exact (dif_pos h).trans ((hh Wf bf hWf _ _).trans (state_left _ _ _ _ _ _ (y 2) h).symm)
  · exact (dif_neg h).trans ((hh Wb bb hWb _ _).trans (state_right _ _ _ _ _ _ (y 2) h).symm)

end Cert.Opinion

end
-- ==== Proof.PoolBlock.lean ====
/-
  The block each grid point of the first pipeline leaves.
-/
module

public import proofs.«01_k».proof.Proof.Pool
public import proofs.«01_k».proof.Proof.Gen.KernelIdeal.Frame
public import Idealize.ShloMosaic.Lib.Pipeline.ValueKit

@[expose] public section

set_option maxRecDepth 16384

noncomputable section

namespace Cert.Opinion

open Idealize.ShloMosaic Cert.KernelIdeal Cert.KernelIdeal.Gen
open scoped BigOperators

/-- The three groups' stored values are this function of their blocks. -/
theorem pay_A (x0 : IVec S2048x1 32) (x3 x4 : FVec Ideal S512x768 .f32) (x5 : FVec Ideal S1x512 .f32) (x6 : FVec Ideal S512x768 .f32)
    (x7 : FVec Ideal S1x512 .f32) : k0_pay4 (F := Ideal) x3 (k0_pay7 x0) (k0_pay8 (k0_pay2 x3) (k0_pay3 x3) x0 x4 x5) (k0_pay9 x6)
      (k0_pay10 (k0_pay2 x3) x6) (k0_pay11 (k0_pay2 x3) x6) x7 = poolAll x0 x3 x4 x5 x6 x7 := rfl

theorem pay_B (x0 : IVec S2048x1 32) (x3 x4 : FVec Ideal S512x768 .f32) (x5 : FVec Ideal S1x512 .f32) (x6 : FVec Ideal S512x768 .f32)
    (x7 : FVec Ideal S1x512 .f32) : k0_pay5 (F := Ideal) x3 (k0_pay12 x0) (k0_pay13 (k0_pay2 x3) (k0_pay3 x3) x0 x4 x5) (k0_pay14 x6)
      (k0_pay15 (k0_pay2 x3) x6) (k0_pay16 (k0_pay2 x3) x6) x7 = poolAll x0 x3 x4 x5 x6 x7 := rfl

theorem pay_C (x0 : IVec S2048x1 32) (x3 x4 : FVec Ideal S512x768 .f32) (x5 : FVec Ideal S1x512 .f32) (x6 : FVec Ideal S512x768 .f32)
    (x7 : FVec Ideal S1x512 .f32) : k0_pay6 (F := Ideal) x3 (k0_pay17 x0) (k0_pay18 (k0_pay2 x3) (k0_pay3 x3) x0 x4 x5) (k0_pay19 x6)
      (k0_pay20 (k0_pay2 x3) x6) (k0_pay21 (k0_pay2 x3) x6) x7 = poolAll x0 x3 x4 x5 x6 x7 := rfl

variable (V : (c : Dev nD) → (b : Ref sig .tc) → Buf (Elt Ideal) (c.tc.loc b))

/-- The block of the first point: the holders' group. -/
theorem outs_A (c : Dev nD) (t : Fin cfg0.N) (h : t.val % 3 = 0) : outsAt0 (F := Ideal) V c t.val t.isLt
    = poolAll (iblk0 V c 0 t) (iblk0 V c 3 t) (iblk0 V c 4 t) (iblk0 V c 5 t) (iblk0 V c 6 t) (iblk0 V c 7 t) := by
  rw [outsAt0_A V c t h (by omega) (by omega)]
  frame_out
  exact pay_A _ _ _ _ _ _

/-- The block of the second point: the targets' group. -/
theorem outs_B (c : Dev nD) (t : Fin cfg0.N) (h : t.val % 3 = 1) : outsAt0 (F := Ideal) V c t.val t.isLt
    = poolAll (iblk0 V c 1 t) (iblk0 V c 3 t) (iblk0 V c 8 t) (iblk0 V c 9 t) (iblk0 V c 10 t) (iblk0 V c 11 t) := by
  rw [outsAt0_B V c t (by omega) h (by omega)]
  frame_out
  exact pay_B _ _ _ _ _ _

/-- The block of the third point: the expressions' group. -/
theorem outs_C (c : Dev nD) (t : Fin cfg0.N) (h : t.val % 3 = 2) : outsAt0 (F := Ideal) V c t.val t.isLt
    = poolAll (iblk0 V c 2 t) (iblk0 V c 3 t) (iblk0 V c 12 t) (iblk0 V c 13 t) (iblk0 V c 14 t) (iblk0 V c 15 t) := by
  rw [outsAt0_C V c t (by omega) (by omega) h]
  frame_out
  exact pay_C _ _ _ _ _ _

end Cert.Opinion

end
-- ==== Proof.PoolArray.lean ====
/-
  The array of pooled tables the first pipeline leaves.
-/
module

public import proofs.«01_k».proof.Proof.PoolBlock

@[expose] public section

set_option maxRecDepth 16384

noncomputable section

namespace Cert.Opinion

open Idealize.ShloMosaic hiding ix1 ix2 ix3 ix4 ix5
open Idealize.ShloMosaic.ValueIdx Cert.KernelIdeal Cert.KernelIdeal.Gen
open scoped BigOperators

variable (V : (c : Dev nD) → (b : Ref sig .tc) → Buf (Elt Ideal) (c.tc.loc b))

theorem idx0_16 : ∀ t : Fin cfg0.N, win0_16.index t = ![t.val, 0, 0] := (by decide +kernel : ∀ t : Fin grid0.N, _)

theorem lt0 (t : Fin cfg0.N) : t.val < 3 := lt_of_lt_of_eq t.isLt (show cfg0.N = 3 from N_0)

/-- The three groups' pooled tables. -/
def poolArr (A B C : FVec Ideal S1x128x256 .f32) : FVec Ideal S3x128x256 .f32 := fun i => (![A, B, C] (i 0)) (ix3 0 (i 1) (i 2))

theorem idx0_zero : ∀ w : Fin 17, w ≠ 16 → ∀ (t : Fin cfg0.N) (a : Fin (win0 w).shape.rank), (win0 w).index t a = 0 :=
  (by decide +kernel : ∀ w : Fin 17, w ≠ 16 → ∀ (t : Fin grid0.N) (a : Fin (win0 w).shape.rank), (win0 w).index t a = 0)

/-- Every input's block is its whole array: an element of the block sits at its own place. -/
theorem emb0_val (w : Fin 17) (hw : w ≠ 16) (t : Fin cfg0.N) (y : ((win0 w).xblock (grid0.coords t)).Idx) (a : Fin (win0 w).shape.rank) :
    (((win0 w).rect t).emb y a : ℕ) = y a :=
  Pipeline.Window.rect_emb_val_of_index_zero (win0 w) t a (idx0_zero w hw t a) y

/-- Reading an array through places that do not move is the array. -/
theorem read_same {S : Shape} {A : Type} (x : S.Idx → A) (f : S.Idx → S.Idx) (h : ∀ y a, (f y a : ℕ) = y a) : (fun y => x (f y)) = x :=
  funext fun y => congrArg x (funext fun a => Fin.ext (h y a))

theorem whole_A (c : Dev nD) (t : Fin cfg0.N) :
    poolAll (iblk0 V c 0 t) (iblk0 V c 3 t) (iblk0 V c 4 t) (iblk0 V c 5 t) (iblk0 V c 6 t) (iblk0 V c 7 t)
      = poolAll (V c main_v1) (V c main_v0) (V c main_arg4) (V c main_v4) (V c main_arg6) (V c main_v5) := by
  have h0 : iblk0 V c 0 t = V c main_v1 := read_same (S := S2048x1) (V c main_v1) _ (emb0_val 0 (by decide) t)
  have h1 : iblk0 V c 3 t = V c main_v0 := read_same (S := S512x768) (V c main_v0) _ (emb0_val 3 (by decide) t)
  have h2 : iblk0 V c 4 t = V c main_arg4 := read_same (S := S512x768) (V c main_arg4) _ (emb0_val 4 (by decide) t)
  have h3 : iblk0 V c 5 t = V c main_v4 := read_same (S := S1x512) (V c main_v4) _ (emb0_val 5 (by decide) t)
  have h4 : iblk0 V c 6 t = V c main_arg6 := read_same (S := S512x768) (V c main_arg6) _ (emb0_val 6 (by decide) t)
  have h5 : iblk0 V c 7 t = V c main_v5 := read_same (S := S1x512) (V c main_v5) _ (emb0_val 7 (by decide) t)
  rw [h0, h1, h2, h3, h4, h5]

theorem whole_B (c : Dev nD) (t : Fin cfg0.N) :
    poolAll (iblk0 V c 1 t) (iblk0 V c 3 t) (iblk0 V c 8 t) (iblk0 V c 9 t) (iblk0 V c 10 t) (iblk0 V c 11 t)
      = poolAll (V c main_v2) (V c main_v0) (V c main_arg8) (V c main_v6) (V c main_arg10) (V c main_v7) := by
  have h0 : iblk0 V c 1 t = V c main_v2 := read_same (S := S2048x1) (V c main_v2) _ (emb0_val 1 (by decide) t)
  have h1 : iblk0 V c 3 t = V c main_v0 := read_same (S := S512x768) (V c main_v0) _ (emb0_val 3 (by decide) t)
  have h2 : iblk0 V c 8 t = V c main_arg8 := read_same (S := S512x768) (V c main_arg8) _ (emb0_val 8 (by decide) t)
  have h3 : iblk0 V c 9 t = V c main_v6 := read_same (S := S1x512) (V c main_v6) _ (emb0_val 9 (by decide) t)
  have h4 : iblk0 V c 10 t = V c main_arg10 := read_same (S := S512x768) (V c main_arg10) _ (emb0_val 10 (by decide) t)
  have h5 : iblk0 V c 11 t = V c main_v7 := read_same (S := S1x512) (V c main_v7) _ (emb0_val 11 (by decide) t)
  rw [h0, h1, h2, h3, h4, h5]

theorem whole_C (c : Dev nD) (t : Fin cfg0.N) :
    poolAll (iblk0 V c 2 t) (iblk0 V c 3 t) (iblk0 V c 12 t) (iblk0 V c 13 t) (iblk0 V c 14 t) (iblk0 V c 15 t)
      = poolAll (V c main_v3) (V c main_v0) (V c main_arg12) (V c main_v8) (V c main_arg14) (V c main_v9) := by
  have h0 : iblk0 V c 2 t = V c main_v3 := read_same (S := S2048x1) (V c main_v3) _ (emb0_val 2 (by decide) t)
  have h1 : iblk0 V c 3 t = V c main_v0 := read_same (S := S512x768) (V c main_v0) _ (emb0_val 3 (by decide) t)
  have h2 : iblk0 V c 12 t = V c main_arg12 := read_same (S := S512x768) (V c main_arg12) _ (emb0_val 12 (by decide) t)
  have h3 : iblk0 V c 13 t = V c main_v8 := read_same (S := S1x512) (V c main_v8) _ (emb0_val 13 (by decide) t)
  have h4 : iblk0 V c 14 t = V c main_arg14 := read_same (S := S512x768) (V c main_arg14) _ (emb0_val 14 (by decide) t)
  have h5 : iblk0 V c 15 t = V c main_v9 := read_same (S := S1x512) (V c main_v9) _ (emb0_val 15 (by decide) t)
  rw [h0, h1, h2, h3, h4, h5]

/-- A block that is the group's table is the array's part at the group. -/
theorem pool_cell (A B C o : FVec Ideal S1x128x256 .f32) (n : ℕ) (hn : n < 3) (hA : n = 0 → o = A) (hB : n = 1 → o = B)
    (hC : n = 2 → o = C) (y : S1x128x256.Idx) : o y = poolArr A B C (ix3 ⟨n, hn⟩ (y 1) (y 2)) := by
  have hy : (ix3 0 (y 1) (y 2) : S1x128x256.Idx) = y := by
    refine funext fun a => ?_
    match a with
    | ⟨0, _⟩ => exact Fin.ext (by have : (y 0).val < 1 := (y 0).isLt; show 0 = (y 0).val; omega)
    | ⟨1, _⟩ => rfl
    | ⟨2, _⟩ => rfl
  match n, hn with
  | 0, _ => rw [hA rfl]; exact congrArg A hy.symm
  | 1, _ => rw [hB rfl]; exact congrArg B hy.symm
  | 2, _ => rw [hC rfl]; exact congrArg C hy.symm

/-- The first pipeline's array: group by group, the pooled tables. -/
theorem final0 (c : Dev nD) : (dat0 V c).arrAt 16 cfg0.N
    = poolArr (poolAll (V c main_v1) (V c main_v0) (V c main_arg4) (V c main_v4) (V c main_arg6) (V c main_v5))
        (poolAll (V c main_v2) (V c main_v0) (V c main_arg8) (V c main_v6) (V c main_arg10) (V c main_v7))
        (poolAll (V c main_v3) (V c main_v0) (V c main_arg12) (V c main_v8) (V c main_arg14) (V c main_v9)) := by
  refine (dat0 V c).arrAt_eq_of_covers 16 _ (by decide +kernel) fun t hf y => ?_
  blk_simp
  rw [after0_16]
  have he : (win0_16.blk t).view.emb y = (ix3 ⟨t.val, lt0 t⟩ (y 1) (y 2) : S3x128x256.Idx) := by
    blk_ext [idx0_16 t]
  rw [he]
  exact pool_cell _ _ _ _ t.val (lt0 t) (fun h => (outs_A V c t (by omega)).trans (whole_A V c t))
    (fun h => (outs_B V c t (by omega)).trans (whole_B V c t)) (fun h => (outs_C V c t (by omega)).trans (whole_C V c t)) y

end Cert.Opinion

end
-- ==== Proof.Pair.lean ====
/-
  What one grid point of the second pipeline stores: for each of two tensors and each of eight values of `b`, the
  128 × 128 table `∑ c, Ee[k,c] · ∑ a, He[i,a] · T[a, 256·b + c]`.
-/
module

public import proofs.«01_k».proof.Proof.Reals
public import proofs.«01_k».proof.Proof.Gen.KernelIdeal.Skeleton
public import Idealize.ShloMosaic.Lib.Pipeline.Value

@[expose] public section

set_option maxRecDepth 16384

noncomputable section

namespace Cert.Opinion

open Idealize.ShloMosaic Idealize.ShloMosaic.ValueIdx Cert.KernelIdeal Cert.KernelIdeal.Gen
open scoped BigOperators

/-- The first product's sum, `128×256` by `256×2048`, at (i, n). -/
theorem sum_plain (A : S128x256.Idx → EReal) (B : S256x2048.Idx → EReal) (j : S128x2048.Idx) :
    (∑ q, A (dot_S128x256_S256x2048_S128x2048_1_0_0_1_n_n.lhsIdx j q) * B (dot_S128x256_S256x2048_S128x2048_1_0_0_1_n_n.rhsIdx j q))
      = ∑ a : Fin 256, A (ix2 (j 0) a) * B (ix2 a (j 1)) := by
  refine sum_contr (n := 256) _ rfl rfl _ _ fun q a hq => ?_
  have el : dot_S128x256_S256x2048_S128x2048_1_0_0_1_n_n.lhsIdx j q = ix2 (j 0) a := by
    funext b; apply Fin.ext
    match b with
    | ⟨0, _⟩ => rfl
    | ⟨1, _⟩ => exact hq
  have er : dot_S128x256_S256x2048_S128x2048_1_0_0_1_n_n.rhsIdx j q = ix2 a (j 1) := by
    funext b; apply Fin.ext
    match b with
    | ⟨0, _⟩ => exact hq
    | ⟨1, _⟩ => rfl
  exact congrArg₂ (· * ·) (congrArg A el) (congrArg B er)

/-- The second product's sum, `128×256` by the transpose of `128×256`, at (k, i). -/
theorem sum_trans (A B : S128x256.Idx → EReal) (j : S128x128.Idx) :
    (∑ q, A (dot_S128x256_S128x256_S128x128_1_1_0_0_n_n.lhsIdx j q) * B (dot_S128x256_S128x256_S128x128_1_1_0_0_n_n.rhsIdx j q))
      = ∑ c : Fin 256, A (ix2 (j 0) c) * B (ix2 (j 1) c) := by
  refine sum_contr (n := 256) _ rfl rfl _ _ fun q a hq => ?_
  have el : dot_S128x256_S128x256_S128x128_1_1_0_0_n_n.lhsIdx j q = ix2 (j 0) a := by
    funext b; apply Fin.ext
    match b with
    | ⟨0, _⟩ => rfl
    | ⟨1, _⟩ => exact hq
  have er : dot_S128x256_S128x256_S128x128_1_1_0_0_n_n.rhsIdx j q = ix2 (j 1) a := by
    funext b; apply Fin.ext
    match b with
    | ⟨0, _⟩ => rfl
    | ⟨1, _⟩ => exact hq
  exact congrArg₂ (· * ·) (congrArg A el) (congrArg B er)

/-- The array `x = He · T` of one tensor, as the body leaves it. -/
def pairX (H : FVec Ideal S128x256 .f32) (T : FVec Ideal S256x2048 .f32) : FVec Ideal S128x2048 .f32 :=
  passes dot_S128x256_S256x2048_S128x2048_1_0_0_1_n_n (hi H) (lo H) (hi T) (lo T)

/-- One stored table: `Ee` by the transpose of the 256 columns of `x` from `off`. -/
def pairY (E : FVec Ideal S128x256 .f32) (X : FVec Ideal S128x2048 .f32) (off : ℕ) (hs : S128x2048.Slices ![0, off] S128x256) :
    FVec Ideal S1x1x128x128 .f32 :=
  shapeCast S1x1x128x128 (passes dot_S128x256_S128x256_S128x128_1_1_0_0_n_n (hi E) (lo E)
    (hi (extractStridedSlice S128x256 ![0, off] X hs)) (lo (extractStridedSlice S128x256 ![0, off] X hs)))
    shapeCasts_S128x128_S1x1x128x128

/-- `x` at (i, n) is `∑ a, He[i,a] · T[a,n]`. -/
theorem pairX_apply {H : FVec Ideal S128x256 .f32} {T : FVec Ideal S256x2048 .f32} (hH : ∀ i, IsReal (H i))
    (hT : ∀ i, IsReal (T i)) (j : S128x2048.Idx) : pairX H T j = ∑ a : Fin 256, H (ix2 (j 0) a) * T (ix2 a (j 1)) := by
  rw [pairX, passes_apply _ _ _ hH hT, sum_plain]

/-- `x` is an array of real numbers. -/
theorem isReal_pairX {H : FVec Ideal S128x256 .f32} {T : FVec Ideal S256x2048 .f32} (hH : ∀ i, IsReal (H i))
    (hT : ∀ i, IsReal (T i)) (j : S128x2048.Idx) : IsReal (pairX H T j) := by
  rw [pairX_apply hH hT]; exact isReal_sum _ _ fun a _ => (hH _).mul (hT _)

/-- A stored table at (k, i) is `∑ c, Ee[k,c] · x[i, off + c]`. -/
theorem pairY_apply {E : FVec Ideal S128x256 .f32} {X : FVec Ideal S128x2048 .f32} (hE : ∀ i, IsReal (E i))
    (hX : ∀ i, IsReal (X i)) (off : ℕ) (hs : S128x2048.Slices ![0, off] S128x256) (hoff : off + 256 ≤ 2048) (y : S1x1x128x128.Idx) :
    pairY E X off hs y = ∑ c : Fin 256, E (ix2 (y 2) c) * X (ix2 (y 3) ⟨off + c.val, by omega⟩) := by
  have h0 : (y 0).val < 1 := (y 0).isLt
  have h1 : (y 1).val < 1 := (y 1).isLt
  have hc : pairY E X off hs y = passes dot_S128x256_S128x256_S128x128_1_1_0_0_n_n (hi E) (lo E)
      (hi (extractStridedSlice S128x256 ![0, off] X hs)) (lo (extractStridedSlice S128x256 ![0, off] X hs)) (ix2 (y 2) (y 3)) :=
    shapeCast_apply _ _ y (ix2 (y 2) (y 3) : S128x128.Idx) (by
      rw [Shape.rowMajor_val_two, Shape.rowMajor_val_four]
      show (y 2).val * 128 + (y 3).val = (((y 0).val * 1 + (y 1).val) * 128 + (y 2).val) * 128 + (y 3).val
      omega)
  have hp := passes_apply dot_S128x256_S128x256_S128x128_1_1_0_0_n_n E (extractStridedSlice S128x256 ![0, off] X hs) hE
    (fun i => hX _) (ix2 (y 2) (y 3))
  have ht := sum_trans E (extractStridedSlice S128x256 ![0, off] X hs) (ix2 (y 2) (y 3))
  have hx : ∀ c : Fin 256, extractStridedSlice S128x256 ![0, off] X hs (ix2 (y 3) c) = X (ix2 (y 3) ⟨off + c.val, by omega⟩) :=
    fun c => extractStridedSlice_apply _ X hs _ _ fun a => by
      match a with
      | ⟨0, _⟩ => exact (Nat.zero_add _).symm
      | ⟨1, _⟩ => rfl
  exact hc.trans (hp.trans (ht.trans (Finset.sum_congr rfl fun c _ => congrArg (E (ix2 (y 2) c) * ·) (hx c))))

end Cert.Opinion

end
-- ==== Proof.PairBlock.lean ====
/-
  The block one grid point of the second pipeline leaves, as one table over (tensor, b, k, i).
-/
module

public import proofs.«01_k».proof.Proof.Pair
public import proofs.«01_k».proof.Proof.Gen.KernelIdeal.Frame

@[expose] public section

set_option maxRecDepth 16384

noncomputable section

namespace Cert.Opinion

open Idealize.ShloMosaic Idealize.ShloMosaic.ValueIdx Cert.KernelIdeal Cert.KernelIdeal.Gen
open scoped BigOperators

theorem pair_slices (f : Fin 8) : S128x2048.Slices ![0, 256 * f.val] S128x256 := by
  refine ⟨rfl, fun a => ?_⟩
  have := f.isLt
  match a with
  | ⟨0, _⟩ => show 0 + 128 ≤ 128; omega
  | ⟨1, _⟩ => show 256 * f.val + 256 ≤ 2048; omega

theorem pair_inb (t : Fin 2) (f : Fin 8) (a : Fin S2x8x128x128.rank) :
    (![t.val, f.val, 0, 0] : Fin 4 → ℕ) a + S1x1x128x128.size a ≤ S2x8x128x128.size a := by
  have := f.isLt; have := t.isLt
  match a with
  | ⟨0, _⟩ => show t.val + 1 ≤ 2; omega
  | ⟨1, _⟩ => show f.val + 1 ≤ 8; omega
  | ⟨2, _⟩ => show 0 + 128 ≤ 128; omega
  | ⟨3, _⟩ => show 0 + 128 ≤ 128; omega

theorem pool_inb (t : Fin 3) (a : Fin S3x128x256.rank) :
    (![t.val, 0, 0] : Fin 3 → ℕ) a + S1x128x256.size a ≤ S3x128x256.size a := by
  have := t.isLt
  match a with
  | ⟨0, _⟩ => show t.val + 1 ≤ 3; omega
  | ⟨1, _⟩ => show 0 + 128 ≤ 128; omega
  | ⟨2, _⟩ => show 0 + 256 ≤ 256; omega

/-- Table `t` of the three pooled tables a block holds. -/
def pairRow (x2 : FVec Ideal S3x128x256 .f32) (t : Fin 3) : FVec Ideal S128x256 .f32 :=
  shapeCast S128x256 (View.ld (Val := Elt Ideal) (e' := .f32) x2 (Rect.unit (s := S3x128x256) ![t.val, 0, 0] S1x128x256.size (pool_inb t))) shapeCasts_S1x128x256_S128x256

/-- The whole of a tensor's block. -/
def pairT (x0 x1 : FVec Ideal S256x2048 .f32) (t : Fin 2) : FVec Ideal S256x2048 .f32 :=
  shapeCast S256x2048 (View.ld (Val := Elt Ideal) (e' := .f32) (![x0, x1] t) r1_2) shapeCasts_S256x2048_S256x2048

/-- The piece stored at (t, f). -/
def pairPiece (x0 x1 : FVec Ideal S256x2048 .f32) (x2 : FVec Ideal S3x128x256 .f32) (p : Fin 2 × Fin 8) :
    View.Piece (Elt Ideal) S2x8x128x128 .f32 :=
  ⟨Rect.unit (s := S2x8x128x128) ![p.1.val, p.2.val, 0, 0] S1x1x128x128.size (pair_inb p.1 p.2),
    pairY (pairRow x2 2) (pairX (pairRow x2 ⟨p.1.val, by omega⟩) (pairT x0 x1 p.1)) (256 * p.2.val) (pair_slices p.2)⟩

/-- The cells in the order the block's pieces are listed: last stored first. -/
def pairCells : List (Fin 2 × Fin 8) :=
  [(1, 7), (1, 6), (1, 5), (1, 4), (1, 3), (1, 2), (1, 1), (1, 0), (0, 7), (0, 6), (0, 5), (0, 4), (0, 3), (0, 2), (0, 1), (0, 0)]

/-- The block is the pieces of the sixteen cells. -/
theorem out1_eq (x0 x1 : FVec Ideal S256x2048 .f32) (x2 : FVec Ideal S3x128x256 .f32) :
    out1_3 (F := Ideal) x0 x1 x2 = View.canon (pairCells.map (pairPiece x0 x1 x2)) := rfl

theorem mem_pairCells : ∀ p : Fin 2 × Fin 8, p ∈ pairCells := by decide

/-- A pooled table read at an index. -/
theorem pairRow_apply (x2 : FVec Ideal S3x128x256 .f32) (t : Fin 3) (i : S128x256.Idx) :
    pairRow x2 t i = x2 (ix3 t (i 0) (i 1)) := by
  have h := shapeCast_apply (View.ld (Val := Elt Ideal) (e' := .f32) x2 (Rect.unit (s := S3x128x256) ![t.val, 0, 0] S1x128x256.size (pool_inb t)))
    shapeCasts_S1x128x256_S128x256 i (ix3 0 (i 0) (i 1) : S1x128x256.Idx) (by
      rw [Shape.rowMajor_val_three, Shape.rowMajor_val_two]
      show (0 * 128 + (i 0).val) * 256 + (i 1).val = (i 0).val * 256 + (i 1).val
      omega)
  refine h.trans (congrArg x2 ?_)
  funext a; apply Fin.ext
  match a with
  | ⟨0, _⟩ => show t.val + 1 * 0 = t.val; omega
  | ⟨1, _⟩ => show 0 + 1 * (i 0).val = (i 0).val; omega
  | ⟨2, _⟩ => show 0 + 1 * (i 1).val = (i 1).val; omega

/-- A tensor's block read through the whole of it. -/
theorem pairT_eq (x0 x1 : FVec Ideal S256x2048 .f32) (t : Fin 2) : pairT x0 x1 t = ![x0, x1] t := by
  refine (shapeCast_self _ _).trans ?_
  funext i
  refine congrArg (![x0, x1] t) ?_
  funext a; apply Fin.ext
  match a with
  | ⟨0, _⟩ => show 0 + 1 * (i 0).val = (i 0).val; omega
  | ⟨1, _⟩ => show 0 + 1 * (i 1).val = (i 1).val; omega

/-- The block's table: at (t, b, k, i), the sum over `c` of `Ee[k,c] · ∑ a, H[i,a] · T[a, 256·b + c]`. -/
def pairTable (x0 x1 : FVec Ideal S256x2048 .f32) (x2 : FVec Ideal S3x128x256 .f32) (t : Fin 2) (f : Fin 8) (k i : Fin 128) : EReal :=
  ∑ c : Fin 256, x2 (ix3 2 k c) * ∑ a : Fin 256, x2 (ix3 ⟨t.val, by omega⟩ i a) * (![x0, x1] t) (ix2 a ⟨256 * f.val + c.val, by omega⟩)

/-- What the second pipeline's body leaves of real blocks is their table. -/
theorem out1_apply {x0 x1 : FVec Ideal S256x2048 .f32} {x2 : FVec Ideal S3x128x256 .f32} (h0 : ∀ i, IsReal (x0 i))
    (h1 : ∀ i, IsReal (x1 i)) (h2 : ∀ i, IsReal (x2 i)) (y : S2x8x128x128.Idx) :
    out1_3 (F := Ideal) x0 x1 x2 y = pairTable x0 x1 x2 (y 0) (y 1) (y 2) (y 3) := by
  rw [out1_eq]
  refine View.canon_apply_of_pieces (Val := Elt Ideal) (e := .f32) (fun y => pairTable x0 x1 x2 (y 0) (y 1) (y 2) (y 3)) _ ?_ y ?_
  · intro p hp
    obtain ⟨⟨t, f⟩, -, rfl⟩ := List.mem_map.1 hp
    intro z
    have z0 : (z 0).val < 1 := (z 0).isLt
    have z1 : (z 1).val < 1 := (z 1).isLt
    have hR : ∀ s i, IsReal (pairRow x2 s i) := fun s i => by rw [pairRow_apply]; exact h2 _
    have hT : ∀ i, IsReal (pairT x0 x1 t i) := fun i => by
      rw [pairT_eq]
      match t with
      | ⟨0, _⟩ => exact h0 i
      | ⟨1, _⟩ => exact h1 i
    have hf := f.isLt
    have hp := pairY_apply (hR 2) (isReal_pairX (hR ⟨t.val, by omega⟩) hT) (256 * f.val) (pair_slices f) (by omega) z
    have et : (Rect.emb (Rect.unit (s := S2x8x128x128) ![t.val, f.val, 0, 0] S1x1x128x128.size (pair_inb t f)) z) 0 = t :=
      Fin.ext (show t.val + 1 * (z 0).val = t.val by omega)
    have ef : (Rect.emb (Rect.unit (s := S2x8x128x128) ![t.val, f.val, 0, 0] S1x1x128x128.size (pair_inb t f)) z) 1 = f :=
      Fin.ext (show f.val + 1 * (z 1).val = f.val by omega)
    have ek : (Rect.emb (Rect.unit (s := S2x8x128x128) ![t.val, f.val, 0, 0] S1x1x128x128.size (pair_inb t f)) z) 2 = z 2 :=
      Fin.ext (show 0 + 1 * (z 2).val = (z 2).val by omega)
    have ei : (Rect.emb (Rect.unit (s := S2x8x128x128) ![t.val, f.val, 0, 0] S1x1x128x128.size (pair_inb t f)) z) 3 = z 3 :=
      Fin.ext (show 0 + 1 * (z 3).val = (z 3).val by omega)
    have hg : pairTable x0 x1 x2 _ _ _ _ = pairTable x0 x1 x2 t f (z 2) (z 3) :=
      congr (congr (congrArg₂ (pairTable x0 x1 x2) et ef) ek) ei
    refine Eq.trans ?_ hg.symm
    refine hp.trans (Finset.sum_congr rfl fun c _ => congrArg₂ (· * ·) (pairRow_apply _ _ _) ?_)
    refine (pairX_apply (hR _) hT _).trans (Finset.sum_congr rfl fun a _ => congrArg₂ (· * ·) (pairRow_apply _ _ _) ?_)
    rw [pairT_eq]
  · refine ⟨pairPiece x0 x1 x2 (y 0, y 1), List.mem_map.2 ⟨_, mem_pairCells _, rfl⟩, ?_⟩
    show y ∈ (Rect.unit (s := S2x8x128x128) ![(y 0).val, (y 1).val, 0, 0] S1x1x128x128.size (pair_inb (y 0) (y 1))).set
    rw [Rect.mem_set_unit]
    intro a
    match a with
    | ⟨0, _⟩ => exact ⟨le_rfl, Nat.lt_succ_self _⟩
    | ⟨1, _⟩ => exact ⟨le_rfl, Nat.lt_succ_self _⟩
    | ⟨2, _⟩ => exact ⟨Nat.zero_le _, by rw [show (![(y 0).val, (y 1).val, 0, 0] : Fin 4 → ℕ) ⟨2, by omega⟩ = 0 from rfl, zero_add]; exact (y 2).isLt⟩
    | ⟨3, _⟩ => exact ⟨Nat.zero_le _, by rw [show (![(y 0).val, (y 1).val, 0, 0] : Fin 4 → ℕ) ⟨3, by omega⟩ = 0 from rfl, zero_add]; exact (y 3).isLt⟩

end Cert.Opinion

end
-- ==== Proof.PairArray.lean ====
/-
  The array of pair tables the second pipeline leaves.
-/
module

public import proofs.«01_k».proof.Proof.PairBlock
public import proofs.«01_k».proof.Proof.Spec
public import Idealize.ShloMosaic.Lib.Pipeline.ValueKit

@[expose] public section

set_option maxRecDepth 16384

noncomputable section

namespace Cert.Opinion

open Idealize.ShloMosaic hiding ix1 ix2 ix3 ix4 ix5
open Idealize.ShloMosaic.ValueIdx Cert.KernelIdeal Cert.KernelIdeal.Gen
open scoped BigOperators

variable (V : (c : Dev nD) → (b : Ref sig .tc) → Buf (Elt Ideal) (c.tc.loc b))

/-- The array of pair tables, from the pooled tables and the two flattened tensors. -/
def pairArr (H : FVec Ideal S3x128x256 .f32) (T0 T1 : FVec Ideal S256x65536 .f32) : FVec Ideal S2x256x128x128 .f32 := fun i =>
  pairOf (fun k c => H (ix3 2 k c)) (fun n a => H (ix3 ⟨(i 0).val, by have : (i 0).val < 2 := (i 0).isLt; omega⟩ n a))
    (fun a b c => (![T0, T1] (i 0)) (ix2 a ⟨256 * b.val + c.val, by omega⟩)) (i 1) (i 2) (i 3)

theorem idx1_0 : ∀ t : Fin cfg1.N, win1_0.index t = ![0, t.val] := (by decide +kernel : ∀ t : Fin grid1.N, _)
theorem idx1_1 : ∀ t : Fin cfg1.N, win1_1.index t = ![0, t.val] := (by decide +kernel : ∀ t : Fin grid1.N, _)
theorem idx1_2 : ∀ t : Fin cfg1.N, win1_2.index t = ![0, 0, 0] := (by decide +kernel : ∀ t : Fin grid1.N, _)
theorem idx1_3 : ∀ t : Fin cfg1.N, win1_3.index t = ![0, t.val, 0, 0] := (by decide +kernel : ∀ t : Fin grid1.N, _)

theorem lt1 (t : Fin cfg1.N) : t.val < 32 := lt_of_lt_of_eq t.isLt (show cfg1.N = 32 from N_1)

/-- The first tensor's block at a point. -/
theorem blk1_0 (c : Dev nD) (t : Fin cfg1.N) (y : S256x2048.Idx) :
    iblk1 V c 0 t y = (V c main_v11 : FVec Ideal S256x65536 .f32)
      (ix2 (y 0) ⟨2048 * t.val + (y 1).val, by have := lt1 t; have : (y 1).val < 2048 := (y 1).isLt; omega⟩) := by
  blk_simp [iblk1]
  refine congrArg (V c main_v11 : FVec Ideal S256x65536 .f32) ?_
  blk_ext [idx1_0 t]

theorem blk1_1 (c : Dev nD) (t : Fin cfg1.N) (y : S256x2048.Idx) :
    iblk1 V c 1 t y = (V c main_v12 : FVec Ideal S256x65536 .f32)
      (ix2 (y 0) ⟨2048 * t.val + (y 1).val, by have := lt1 t; have : (y 1).val < 2048 := (y 1).isLt; omega⟩) := by
  blk_simp [iblk1]
  refine congrArg (V c main_v12 : FVec Ideal S256x65536 .f32) ?_
  blk_ext [idx1_1 t]

theorem blk1_2 (c : Dev nD) (t : Fin cfg1.N) (y : S3x128x256.Idx) :
    iblk1 V c 2 t y = (V c main_v10 : FVec Ideal S3x128x256 .f32) y := by
  blk_simp [iblk1]
  refine congrArg (V c main_v10 : FVec Ideal S3x128x256 .f32) ?_
  blk_ext [idx1_2 t]

/-- A block of the pair table is the array's part at the block. -/
theorem pairTable_blk (c : Dev nD) (t : Fin cfg1.N) (g : Fin 2) (f : Fin 8) (k i : Fin 128) :
    pairTable (iblk1 V c 0 t) (iblk1 V c 1 t) (iblk1 V c 2 t) g f k i
      = pairArr (V c main_v10) (V c main_v11) (V c main_v12) (ix4 g ⟨8 * t.val + f.val, by have := lt1 t; omega⟩ k i) := by
  have hi : ∀ cc : Fin 256, 2048 * t.val + (256 * f.val + cc.val) = 256 * (8 * t.val + f.val) + cc.val := fun cc => by omega
  have hT : ∀ a cc : Fin 256, (![iblk1 V c 0 t, iblk1 V c 1 t] g : FVec Ideal S256x2048 .f32) (ix2 a ⟨256 * f.val + cc.val, by omega⟩)
      = (![V c main_v11, V c main_v12] g : FVec Ideal S256x65536 .f32)
        (ix2 a ⟨256 * (8 * t.val + f.val) + cc.val, by have := lt1 t; omega⟩) := by
    intro a cc
    match g with
    | 0 => exact (blk1_0 V c t _).trans (congrArg (V c main_v11 : FVec Ideal S256x65536 .f32) (congrArg (ix2 a) (Fin.ext (hi cc))))
    | 1 => exact (blk1_1 V c t _).trans (congrArg (V c main_v12 : FVec Ideal S256x65536 .f32) (congrArg (ix2 a) (Fin.ext (hi cc))))
  unfold pairTable pairArr pairOf
  simp only [blk1_2 V c t, hT]

/-- The second pipeline's array, of real operands. -/
theorem final1 (c : Dev nD) (hH : ∀ i, IsReal ((V c main_v10 : FVec Ideal S3x128x256 .f32) i))
    (h0 : ∀ i, IsReal ((V c main_v11 : FVec Ideal S256x65536 .f32) i)) (h1 : ∀ i, IsReal ((V c main_v12 : FVec Ideal S256x65536 .f32) i)) :
    (dat1 V c).arrAt 3 cfg1.N = pairArr (V c main_v10) (V c main_v11) (V c main_v12) := by
  refine (dat1 V c).arrAt_eq_of_covers 3 _ (by decide +kernel) fun t hf y => ?_
  blk_simp
  rw [after1_3]
  have ho := out1_apply (x0 := iblk1 V c 0 t) (x1 := iblk1 V c 1 t) (x2 := iblk1 V c 2 t) (fun i => by rw [blk1_0]; exact h0 _)
    (fun i => by rw [blk1_1]; exact h1 _) (fun i => by rw [blk1_2]; exact hH _) y
  refine ho.trans ?_
  have he : (win1_3.blk t).view.emb y = (ix4 (y 0) ⟨8 * t.val + (y 1).val, by have := lt1 t; have : (y 1).val < 8 := (y 1).isLt; omega⟩ (y 2) (y 3) : S2x256x128x128.Idx) := by
    blk_ext [idx1_3 t]
  rw [he]
  exact pairTable_blk V c t (y 0) (y 1) (y 2) (y 3)

end Cert.Opinion

end
-- ==== Proof.PredBlock.lean ====
/-
  The block one grid point of the third pipeline leaves, as one table over (k, m, i, j):
  `∑ b, (∑ c, Tc[m,c,b] · P[0,c,(k,i)]) · P[1,b,(k,j)]`.
-/
module

public import proofs.«01_k».proof.Proof.Reals
public import Idealize.ShloMosaic.Lib.Pipeline.Value
public import proofs.«01_k».proof.Proof.Gen.KernelIdeal.Frame

@[expose] public section

set_option maxRecDepth 16384

noncomputable section

namespace Cert.Opinion

open Idealize.ShloMosaic Idealize.ShloMosaic.ValueIdx Cert.KernelIdeal Cert.KernelIdeal.Gen
open scoped BigOperators

/-- The sum of the first product, which contracts both first axes, at (b, n). -/
theorem sum_first (A : S256x256.Idx → EReal) (B : S256x1024.Idx → EReal) (j : S256x1024.Idx) :
    (∑ q, A (dot_S256x256_S256x1024_S256x1024_0_0_1_1_n_n.lhsIdx j q) * B (dot_S256x256_S256x1024_S256x1024_0_0_1_1_n_n.rhsIdx j q))
      = ∑ c : Fin 256, A (ix2 c (j 0)) * B (ix2 c (j 1)) := by
  refine sum_contr (n := 256) _ rfl rfl _ _ fun q c hq => ?_
  have el : dot_S256x256_S256x1024_S256x1024_0_0_1_1_n_n.lhsIdx j q = ix2 c (j 0) := by
    funext b; apply Fin.ext
    match b with
    | ⟨0, _⟩ => exact hq
    | ⟨1, _⟩ => rfl
  have er : dot_S256x256_S256x1024_S256x1024_0_0_1_1_n_n.rhsIdx j q = ix2 c (j 1) := by
    funext b; apply Fin.ext
    match b with
    | ⟨0, _⟩ => exact hq
    | ⟨1, _⟩ => rfl
  exact congrArg₂ (· * ·) (congrArg A el) (congrArg B er)

/-- The sum of the second product, which also contracts both first axes, at (i, j). -/
theorem sum_second (A B : S256x128.Idx → EReal) (j : S128x128.Idx) :
    (∑ q, A (dot_S256x128_S256x128_S128x128_0_0_1_1_n_n.lhsIdx j q) * B (dot_S256x128_S256x128_S128x128_0_0_1_1_n_n.rhsIdx j q))
      = ∑ b : Fin 256, A (ix2 b (j 0)) * B (ix2 b (j 1)) := by
  refine sum_contr (n := 256) _ rfl rfl _ _ fun q c hq => ?_
  have el : dot_S256x128_S256x128_S128x128_0_0_1_1_n_n.lhsIdx j q = ix2 c (j 0) := by
    funext b; apply Fin.ext
    match b with
    | ⟨0, _⟩ => exact hq
    | ⟨1, _⟩ => rfl
  have er : dot_S256x128_S256x128_S128x128_0_0_1_1_n_n.rhsIdx j q = ix2 c (j 1) := by
    funext b; apply Fin.ext
    match b with
    | ⟨0, _⟩ => exact hq
    | ⟨1, _⟩ => rfl
  exact congrArg₂ (· * ·) (congrArg A el) (congrArg B er)

theorem pred_slices (f : Fin 8) : S256x1024.Slices ![0, 128 * f.val] S256x128 := by
  refine ⟨rfl, fun a => ?_⟩
  have := f.isLt
  match a with
  | ⟨0, _⟩ => show 0 + 256 ≤ 256; omega
  | ⟨1, _⟩ => show 128 * f.val + 128 ≤ 1024; omega

theorem pred_inb (m : Fin 5) (f : Fin 8) (a : Fin S8x5x128x128.rank) :
    (![f.val, m.val, 0, 0] : Fin 4 → ℕ) a + S1x1x128x128.size a ≤ S8x5x128x128.size a := by
  have := f.isLt; have := m.isLt
  match a with
  | ⟨0, _⟩ => show f.val + 1 ≤ 8; omega
  | ⟨1, _⟩ => show m.val + 1 ≤ 5; omega
  | ⟨2, _⟩ => show 0 + 128 ≤ 128; omega
  | ⟨3, _⟩ => show 0 + 128 ≤ 128; omega

theorem pair_half_inb (t : Fin 2) (a : Fin S2x256x1024.rank) :
    (![t.val, 0, 0] : Fin 3 → ℕ) a + S1x256x1024.size a ≤ S2x256x1024.size a := by
  have := t.isLt
  match a with
  | ⟨0, _⟩ => show t.val + 1 ≤ 2; omega
  | ⟨1, _⟩ => show 0 + 256 ≤ 256; omega
  | ⟨2, _⟩ => show 0 + 1024 ≤ 1024; omega

theorem cls_inb (m : Fin 5) (a : Fin S5x256x256.rank) :
    (![m.val, 0, 0] : Fin 3 → ℕ) a + S1x256x256.size a ≤ S5x256x256.size a := by
  have := m.isLt
  match a with
  | ⟨0, _⟩ => show m.val + 1 ≤ 5; omega
  | ⟨1, _⟩ => show 0 + 256 ≤ 256; omega
  | ⟨2, _⟩ => show 0 + 256 ≤ 256; omega

/-- One of the two pair tables a block holds. -/
def predHalf (x0 : FVec Ideal S2x256x1024 .f32) (t : Fin 2) : FVec Ideal S256x1024 .f32 :=
  shapeCast S256x1024 (View.ld (Val := Elt Ideal) (e' := .f32) x0 (Rect.unit (s := S2x256x1024) ![t.val, 0, 0] S1x256x1024.size (pair_half_inb t)))
    shapeCasts_S1x256x1024_S256x1024

/-- The class tensor at class `m`. -/
def predCls (x1 : FVec Ideal S5x256x256 .f32) (m : Fin 5) : FVec Ideal S256x256 .f32 :=
  shapeCast S256x256 (View.ld (Val := Elt Ideal) (e' := .f32) x1 (Rect.unit (s := S5x256x256) ![m.val, 0, 0] S1x256x256.size (cls_inb m)))
    shapeCasts_S1x256x256_S256x256

/-- The product of a class's table with the first pair table. -/
def predV (C : FVec Ideal S256x256 .f32) (P : FVec Ideal S256x1024 .f32) : FVec Ideal S256x1024 .f32 :=
  passes dot_S256x256_S256x1024_S256x1024_0_0_1_1_n_n (hi C) (lo C) (hi P) (lo P)

/-- One stored table: 128 columns of `v` by the same columns of the second pair table. -/
def predY (V Q : FVec Ideal S256x1024 .f32) (off : ℕ) (hs : S256x1024.Slices ![0, off] S256x128) : FVec Ideal S1x1x128x128 .f32 :=
  shapeCast S1x1x128x128 (passes dot_S256x128_S256x128_S128x128_0_0_1_1_n_n
    (hi (extractStridedSlice S256x128 ![0, off] V hs)) (lo (extractStridedSlice S256x128 ![0, off] V hs))
    (hi (extractStridedSlice S256x128 ![0, off] Q hs)) (lo (extractStridedSlice S256x128 ![0, off] Q hs)))
    shapeCasts_S128x128_S1x1x128x128

/-- The piece stored at (k, m), for `p = (m, k)`. -/
def predPiece (x0 : FVec Ideal S2x256x1024 .f32) (x1 : FVec Ideal S5x256x256 .f32) (p : Fin 5 × Fin 8) :
    View.Piece (Elt Ideal) S8x5x128x128 .f32 :=
  ⟨Rect.unit (s := S8x5x128x128) ![p.2.val, p.1.val, 0, 0] S1x1x128x128.size (pred_inb p.1 p.2),
    predY (predV (predCls x1 p.1) (predHalf x0 0)) (predHalf x0 1) (128 * p.2.val) (pred_slices p.2)⟩

/-- The cells in the order the block's pieces are listed: last stored first. -/
def predCells : List (Fin 5 × Fin 8) :=
  ([4, 3, 2, 1, 0] : List (Fin 5)).flatMap fun m => ([7, 6, 5, 4, 3, 2, 1, 0] : List (Fin 8)).map fun k => (m, k)

/-- The block is the pieces of the forty cells. -/
theorem out2_eq (x0 : FVec Ideal S2x256x1024 .f32) (x1 : FVec Ideal S5x256x256 .f32) :
    out2_2 (F := Ideal) x0 x1 = View.canon (predCells.map (predPiece x0 x1)) := rfl

theorem mem_predCells : ∀ p : Fin 5 × Fin 8, p ∈ predCells := by decide

/-- A pair table read at an index. -/
theorem predHalf_apply (x0 : FVec Ideal S2x256x1024 .f32) (t : Fin 2) (i : S256x1024.Idx) :
    predHalf x0 t i = x0 (ix3 t (i 0) (i 1)) := by
  have h := shapeCast_apply (View.ld (Val := Elt Ideal) (e' := .f32) x0 (Rect.unit (s := S2x256x1024) ![t.val, 0, 0] S1x256x1024.size (pair_half_inb t)))
    shapeCasts_S1x256x1024_S256x1024 i (ix3 0 (i 0) (i 1) : S1x256x1024.Idx) (by
      rw [Shape.rowMajor_val_three, Shape.rowMajor_val_two]
      show (0 * 256 + (i 0).val) * 1024 + (i 1).val = (i 0).val * 1024 + (i 1).val
      omega)
  refine h.trans (congrArg x0 ?_)
  funext a; apply Fin.ext
  match a with
  | ⟨0, _⟩ => show t.val + 1 * 0 = t.val; omega
  | ⟨1, _⟩ => show 0 + 1 * (i 0).val = (i 0).val; omega
  | ⟨2, _⟩ => show 0 + 1 * (i 1).val = (i 1).val; omega

/-- A class's table read at an index. -/
theorem predCls_apply (x1 : FVec Ideal S5x256x256 .f32) (m : Fin 5) (i : S256x256.Idx) :
    predCls x1 m i = x1 (ix3 m (i 0) (i 1)) := by
  have h := shapeCast_apply (View.ld (Val := Elt Ideal) (e' := .f32) x1 (Rect.unit (s := S5x256x256) ![m.val, 0, 0] S1x256x256.size (cls_inb m)))
    shapeCasts_S1x256x256_S256x256 i (ix3 0 (i 0) (i 1) : S1x256x256.Idx) (by
      rw [Shape.rowMajor_val_three, Shape.rowMajor_val_two]
      show (0 * 256 + (i 0).val) * 256 + (i 1).val = (i 0).val * 256 + (i 1).val
      omega)
  refine h.trans (congrArg x1 ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega

/-- `v` at (b, n) is `∑ c, C[c,b] · P[c,n]`. -/
theorem predV_apply {C : FVec Ideal S256x256 .f32} {P : FVec Ideal S256x1024 .f32} (hC : ∀ i, IsReal (C i))
    (hP : ∀ i, IsReal (P i)) (j : S256x1024.Idx) : predV C P j = ∑ c : Fin 256, C (ix2 c (j 0)) * P (ix2 c (j 1)) := by
  rw [predV, passes_apply _ _ _ hC hP, sum_first]

/-- `v` is an array of real numbers. -/
theorem isReal_predV {C : FVec Ideal S256x256 .f32} {P : FVec Ideal S256x1024 .f32} (hC : ∀ i, IsReal (C i))
    (hP : ∀ i, IsReal (P i)) (j : S256x1024.Idx) : IsReal (predV C P j) := by
  rw [predV_apply hC hP]; exact isReal_sum _ _ fun a _ => (hC _).mul (hP _)

/-- A stored table at (i, j) is `∑ b, v[b, off + i] · Q[b, off + j]`. -/
theorem predY_apply {V Q : FVec Ideal S256x1024 .f32} (hV : ∀ i, IsReal (V i)) (hQ : ∀ i, IsReal (Q i)) (off : ℕ)
    (hs : S256x1024.Slices ![0, off] S256x128) (hoff : off + 128 ≤ 1024) (y : S1x1x128x128.Idx) (u w : Fin 1024)
    (hu : u.val = off + (y 2).val) (hw : w.val = off + (y 3).val) :
    predY V Q off hs y = ∑ b : Fin 256, V (ix2 b u) * Q (ix2 b w) := by
  have h0 : (y 0).val < 1 := (y 0).isLt
  have h1 : (y 1).val < 1 := (y 1).isLt
  have hc : predY V Q off hs y = passes dot_S256x128_S256x128_S128x128_0_0_1_1_n_n
      (hi (extractStridedSlice S256x128 ![0, off] V hs)) (lo (extractStridedSlice S256x128 ![0, off] V hs))
      (hi (extractStridedSlice S256x128 ![0, off] Q hs)) (lo (extractStridedSlice S256x128 ![0, off] Q hs)) (ix2 (y 2) (y 3)) :=
    shapeCast_apply _ _ y (ix2 (y 2) (y 3) : S128x128.Idx) (by
      rw [Shape.rowMajor_val_two, Shape.rowMajor_val_four]
      show (y 2).val * 128 + (y 3).val = (((y 0).val * 1 + (y 1).val) * 128 + (y 2).val) * 128 + (y 3).val
      omega)
  have hp := passes_apply dot_S256x128_S256x128_S128x128_0_0_1_1_n_n (extractStridedSlice S256x128 ![0, off] V hs)
    (extractStridedSlice S256x128 ![0, off] Q hs) (fun i => hV _) (fun i => hQ _) (ix2 (y 2) (y 3))
  have ht := sum_second (extractStridedSlice S256x128 ![0, off] V hs) (extractStridedSlice S256x128 ![0, off] Q hs) (ix2 (y 2) (y 3))
  have hx : ∀ (X : FVec Ideal S256x1024 .f32) (b : Fin 256) (n : Fin 128) (u : Fin 1024), u.val = off + n.val →
      extractStridedSlice S256x128 ![0, off] X hs (ix2 b n) = X (ix2 b u) :=
    fun X b n u h => extractStridedSlice_apply _ X hs _ _ fun a => by
      match a with
      | ⟨0, _⟩ => exact (Nat.zero_add _).symm
      | ⟨1, _⟩ => exact h
  exact hc.trans (hp.trans (ht.trans (Finset.sum_congr rfl fun b _ => congrArg₂ (· * ·) (hx V b _ u hu) (hx Q b _ w hw))))

/-- The block's table. -/
def predTable (x0 : FVec Ideal S2x256x1024 .f32) (x1 : FVec Ideal S5x256x256 .f32) (k : Fin 8) (m : Fin 5) (i j : Fin 128) : EReal :=
  ∑ b : Fin 256, (∑ c : Fin 256, x1 (ix3 m c b) * x0 (ix3 0 c ⟨128 * k.val + i.val, by omega⟩)) * x0 (ix3 1 b ⟨128 * k.val + j.val, by omega⟩)

/-- A list of pieces whose payloads are the tiles of one table, some of them covering an index, reads the table there. -/
theorem canon_table {s : Shape} (G : s.Idx → EReal) (L : List (View.Piece (Elt Ideal) s .f32)) (y : s.Idx)
    (hL : ∀ p ∈ L, ∀ x : p.1.shape.Idx, p.2 x = G (p.1.emb x)) (hc : ∃ p ∈ L, y ∈ p.1.set) :
    View.canon (Val := Elt Ideal) (e := .f32) L y = G y := View.canon_apply_of_pieces (Val := Elt Ideal) (e := .f32) G L hL y hc

/-- What the third pipeline's body leaves of real blocks is their table. -/
theorem out2_apply {x0 : FVec Ideal S2x256x1024 .f32} {x1 : FVec Ideal S5x256x256 .f32} (h0 : ∀ i, IsReal (x0 i))
    (h1 : ∀ i, IsReal (x1 i)) (y : S8x5x128x128.Idx) :
    out2_2 (F := Ideal) x0 x1 y = predTable x0 x1 (y 0) (y 1) (y 2) (y 3) := by
  have hL := canon_table (fun y : S8x5x128x128.Idx => predTable x0 x1 (y 0) (y 1) (y 2) (y 3)) (predCells.map (predPiece x0 x1)) y
  have he := congrFun (out2_eq x0 x1) y
  refine he.trans (hL ?_ ?_)
  clear he hL
  · intro p hp
    obtain ⟨⟨m, k⟩, -, rfl⟩ := List.mem_map.1 hp
    intro z
    have z0 : (z 0).val < 1 := (z 0).isLt
    have z1 : (z 1).val < 1 := (z 1).isLt
    have z2 : (z 2).val < 128 := (z 2).isLt
    have z3 : (z 3).val < 128 := (z 3).isLt
    have hk := k.isLt
    have hP : ∀ s i, IsReal (predHalf x0 s i) := fun s i => by rw [predHalf_apply]; exact h0 _
    have hC : ∀ i, IsReal (predCls x1 m i) := fun i => by rw [predCls_apply]; exact h1 _
    have hp := predY_apply (isReal_predV hC (hP 0)) (hP 1) (128 * k.val) (pred_slices k) (by omega) z
      ⟨128 * k.val + (z 2).val, by omega⟩ ⟨128 * k.val + (z 3).val, by omega⟩ rfl rfl
    have ek : (Rect.emb (Rect.unit (s := S8x5x128x128) ![k.val, m.val, 0, 0] S1x1x128x128.size (pred_inb m k)) z) 0 = k :=
      Fin.ext (show k.val + 1 * (z 0).val = k.val by omega)
    have em : (Rect.emb (Rect.unit (s := S8x5x128x128) ![k.val, m.val, 0, 0] S1x1x128x128.size (pred_inb m k)) z) 1 = m :=
      Fin.ext (show m.val + 1 * (z 1).val = m.val by omega)
    have ei : (Rect.emb (Rect.unit (s := S8x5x128x128) ![k.val, m.val, 0, 0] S1x1x128x128.size (pred_inb m k)) z) 2 = z 2 :=
      Fin.ext (show 0 + 1 * (z 2).val = (z 2).val by omega)
    have ej : (Rect.emb (Rect.unit (s := S8x5x128x128) ![k.val, m.val, 0, 0] S1x1x128x128.size (pred_inb m k)) z) 3 = z 3 :=
      Fin.ext (show 0 + 1 * (z 3).val = (z 3).val by omega)
    have hg : predTable x0 x1 _ _ _ _ = predTable x0 x1 k m (z 2) (z 3) :=
      congr (congr (congrArg₂ (predTable x0 x1) ek em) ei) ej
    refine Eq.trans ?_ hg.symm
    refine hp.trans (Finset.sum_congr rfl fun b _ => congrArg₂ (· * ·) ?_ (predHalf_apply _ _ _))
    exact (predV_apply hC (hP 0) _).trans (Finset.sum_congr rfl fun c _ => congrArg₂ (· * ·) (predCls_apply _ _ _) (predHalf_apply _ _ _))
  · refine ⟨predPiece x0 x1 (y 1, y 0), List.mem_map.2 ⟨_, mem_predCells _, rfl⟩, ?_⟩
    show y ∈ (Rect.unit (s := S8x5x128x128) ![(y 0).val, (y 1).val, 0, 0] S1x1x128x128.size (pred_inb (y 1) (y 0))).set
    rw [Rect.mem_set_unit]
    intro a
    match a with
    | ⟨0, _⟩ => exact ⟨le_rfl, Nat.lt_succ_self _⟩
    | ⟨1, _⟩ => exact ⟨le_rfl, Nat.lt_succ_self _⟩
    | ⟨2, _⟩ => exact ⟨Nat.zero_le _, by rw [show (![(y 0).val, (y 1).val, 0, 0] : Fin 4 → ℕ) ⟨2, by omega⟩ = 0 from rfl, zero_add]; exact (y 2).isLt⟩
    | ⟨3, _⟩ => exact ⟨Nat.zero_le _, by rw [show (![(y 0).val, (y 1).val, 0, 0] : Fin 4 → ℕ) ⟨3, by omega⟩ = 0 from rfl, zero_add]; exact (y 3).isLt⟩

end Cert.Opinion

end
-- ==== Proof.PredArray.lean ====
/-
  The array of predictions the third pipeline leaves.
-/
module

public import proofs.«01_k».proof.Proof.PredBlock
public import proofs.«01_k».proof.Proof.Spec
public import Idealize.ShloMosaic.Lib.Pipeline.ValueKit

@[expose] public section

set_option maxRecDepth 16384

noncomputable section

namespace Cert.Opinion

open Idealize.ShloMosaic hiding ix1 ix2 ix3 ix4 ix5
open Idealize.ShloMosaic.ValueIdx Cert.KernelIdeal Cert.KernelIdeal.Gen
open scoped BigOperators

variable (V : (c : Dev nD) → (b : Ref sig .tc) → Buf (Elt Ideal) (c.tc.loc b))

/-- The array of predictions, from the flattened pair tables and the class tensor. -/
def predArr (P : FVec Ideal S2x256x16384 .f32) (T : FVec Ideal S5x256x256 .f32) : FVec Ideal S128x5x128x128 .f32 := fun y =>
  ∑ b : Fin 256, (∑ c : Fin 256, T (ix3 (y 1) c b) * P (ix3 0 c ⟨128 * (y 0).val + (y 2).val, by have : (y 0).val < 128 := (y 0).isLt; have : (y 2).val < 128 := (y 2).isLt; omega⟩))
    * P (ix3 1 b ⟨128 * (y 0).val + (y 3).val, by have : (y 0).val < 128 := (y 0).isLt; have : (y 3).val < 128 := (y 3).isLt; omega⟩)

theorem idx2_0 : ∀ t : Fin cfg2.N, win2_0.index t = ![0, 0, t.val] := (by decide +kernel : ∀ t : Fin grid2.N, _)
theorem idx2_1 : ∀ t : Fin cfg2.N, win2_1.index t = ![0, 0, 0] := (by decide +kernel : ∀ t : Fin grid2.N, _)
theorem idx2_2 : ∀ t : Fin cfg2.N, win2_2.index t = ![t.val, 0, 0, 0] := (by decide +kernel : ∀ t : Fin grid2.N, _)

theorem lt2 (t : Fin cfg2.N) : t.val < 16 := lt_of_lt_of_eq t.isLt (show cfg2.N = 16 from N_2)

/-- The pair tables' block at a point. -/
theorem blk2_0 (c : Dev nD) (t : Fin cfg2.N) (y : S2x256x1024.Idx) :
    iblk2 V c 0 t y = (V c main_v14 : FVec Ideal S2x256x16384 .f32)
      (ix3 (y 0) (y 1) ⟨1024 * t.val + (y 2).val, by have := lt2 t; have : (y 2).val < 1024 := (y 2).isLt; omega⟩) := by
  blk_simp [iblk2]
  refine congrArg (V c main_v14 : FVec Ideal S2x256x16384 .f32) ?_
  blk_ext [idx2_0 t]

theorem blk2_1 (c : Dev nD) (t : Fin cfg2.N) (y : S5x256x256.Idx) :
    iblk2 V c 1 t y = (V c main_v15 : FVec Ideal S5x256x256 .f32) y := by
  blk_simp [iblk2]
  refine congrArg (V c main_v15 : FVec Ideal S5x256x256 .f32) ?_
  blk_ext [idx2_1 t]

/-- A block of predictions is the array's part at the block. -/
theorem predTable_blk (c : Dev nD) (t : Fin cfg2.N) (k : Fin 8) (m : Fin 5) (i j : Fin 128) :
    predTable (iblk2 V c 0 t) (iblk2 V c 1 t) k m i j
      = predArr (V c main_v14) (V c main_v15) (ix4 ⟨8 * t.val + k.val, by have := lt2 t; omega⟩ m i j) := by
  refine Finset.sum_congr rfl fun b _ => ?_
  refine congrArg₂ (· * ·) (Finset.sum_congr rfl fun cc _ => congrArg₂ (· * ·) (blk2_1 V c t _) ?_) ?_
  · refine (blk2_0 V c t _).trans (congrArg (V c main_v14 : FVec Ideal S2x256x16384 .f32) (congrArg (ix3 0 cc) (Fin.ext ?_)))
    show 1024 * t.val + (128 * k.val + i.val) = 128 * (8 * t.val + k.val) + i.val
    omega
  · refine (blk2_0 V c t _).trans (congrArg (V c main_v14 : FVec Ideal S2x256x16384 .f32) (congrArg (ix3 1 b) (Fin.ext ?_)))
    show 1024 * t.val + (128 * k.val + j.val) = 128 * (8 * t.val + k.val) + j.val
    omega

/-- The third pipeline's array, of real operands. -/
theorem final2 (c : Dev nD) (h0 : ∀ i, IsReal ((V c main_v14 : FVec Ideal S2x256x16384 .f32) i))
    (h1 : ∀ i, IsReal ((V c main_v15 : FVec Ideal S5x256x256 .f32) i)) :
    (dat2 V c).arrAt 2 cfg2.N = predArr (V c main_v14) (V c main_v15) := by
  refine (dat2 V c).arrAt_eq_of_covers 2 _ (by decide +kernel) fun t hf y => ?_
  blk_simp
  rw [after2_2]
  have ho := out2_apply (x0 := iblk2 V c 0 t) (x1 := iblk2 V c 1 t) (fun i => by rw [blk2_0]; exact h0 _)
    (fun i => by rw [blk2_1]; exact h1 _) y
  refine ho.trans ?_
  have he : (win2_2.blk t).view.emb y = (ix4 ⟨8 * t.val + (y 0).val, by have := lt2 t; have : (y 0).val < 8 := (y 0).isLt; omega⟩ (y 1) (y 2) (y 3) : S128x5x128x128.Idx) := by
    blk_ext [idx2_2 t]
  rw [he]
  exact predTable_blk V c t (y 0) (y 1) (y 2) (y 3)

end Cert.Opinion

end
-- ==== Proof.Answer.lean ====
/-
  The predictions as functions of the argument arrays: each group's pooled table, and the predictions over the three tables.
-/
module

public import proofs.«01_k».proof.Proof.Spec
public import proofs.«01_k».proof.KernelIdeal

@[expose] public section

set_option maxRecDepth 16384

noncomputable section

namespace Cert.Opinion

open Idealize.ShloMosaic Idealize.ShloMosaic.ValueIdx Cert.KernelIdeal
open scoped BigOperators

/-- A group's pooled table, from the encoder's output, the group's indices and its two sets of weights. -/
def table (E : FVec Ideal S1x512x768 .f32) (idx : IVec S128x16 32) (Wf : FVec Ideal S512x768 .f32) (bf : FVec Ideal S512 .f32)
    (Wb : FVec Ideal S512x768 .f32) (bb : FVec Ideal S512 .f32) : Fin 128 → Fin 256 → EReal :=
  pooled (fun n s => idx (ix2 n s)) (fun r k => E (ix3 0 r k)) (fun q k => Wf (ix2 q k)) (fun q => bf (ix1 q))
    (fun q k => Wb (ix2 q k)) (fun q => bb (ix1 q))

theorem isReal_table (E : FVec Ideal S1x512x768 .f32) (idx : IVec S128x16 32) (Wf : FVec Ideal S512x768 .f32) (bf : FVec Ideal S512 .f32)
    (Wb : FVec Ideal S512x768 .f32) (bb : FVec Ideal S512 .f32) (n : Fin 128) (q : Fin 256) : IsReal (table E idx Wf bf Wb bb n q) :=
  isReal_pooled _ _ _ _ _ _ _ _

/-- The predictions, from the holders', the targets' and the expressions' tables and the three tensors. -/
def answer (He Te Ee : Fin 128 → Fin 256 → EReal) (Th Tt : FVec Ideal S256x256x256 .f32) (Tc : FVec Ideal S256x5x256 .f32) :
    FVec Ideal S128x128x128x5 .f32 := fun y =>
  predOf (fun b m c => Tc (ix3 b m c)) (pairOf Ee He fun a b c => Th (ix3 a b c)) (pairOf Ee Te fun a b c => Tt (ix3 a b c))
    (y 0) (y 1) (y 2) (y 3)

end Cert.Opinion

end
-- ==== Proof.Run.lean ====
/-
  The contents of the kernel's arrays at each of its pipelines: as each pipeline finds them, from the memory at launch.
-/
module

public import proofs.«01_k».proof.Proof.PoolArray
public import proofs.«01_k».proof.Proof.PairArray
public import proofs.«01_k».proof.Proof.PredArray
public import proofs.«01_k».proof.Proof.Answer
public import Idealize.ShloMosaic.Lib.StableHlo.RunRead

@[expose] public section

set_option maxRecDepth 16384

noncomputable section

namespace Cert.Opinion

open Idealize.ShloMosaic hiding ix1 ix2 ix3 ix4 ix5
open Idealize.ShloMosaic.ValueIdx Cert.KernelIdeal Cert.KernelIdeal.Gen
open scoped BigOperators

variable (m : (ℓ : Loc nD τ sig) → Buf (Elt Ideal) ℓ) (ρ : Dev nD → PrngReg)

/-- The reshaped operands of the first pipeline. -/
theorem entry0 (c : Dev nD) :
    V1 m ρ c main_v0 = shapeCast S512x768 (m (c.tc.loc main_arg0) : FVec Ideal S1x512x768 .f32) shapeCasts_S1x512x768_S512x768
    ∧ V1 m ρ c main_v1 = shapeCast S2048x1 (m (c.tc.loc main_arg1) : IVec S128x16 32) shapeCasts_S128x16_S2048x1
    ∧ V1 m ρ c main_v2 = shapeCast S2048x1 (m (c.tc.loc main_arg2) : IVec S128x16 32) shapeCasts_S128x16_S2048x1
    ∧ V1 m ρ c main_v3 = shapeCast S2048x1 (m (c.tc.loc main_arg3) : IVec S128x16 32) shapeCasts_S128x16_S2048x1
    ∧ V1 m ρ c main_v4 = shapeCast S1x512 (m (c.tc.loc main_arg5) : FVec Ideal S512 .f32) shapeCasts_S512_S1x512
    ∧ V1 m ρ c main_v5 = shapeCast S1x512 (m (c.tc.loc main_arg7) : FVec Ideal S512 .f32) shapeCasts_S512_S1x512
    ∧ V1 m ρ c main_v6 = shapeCast S1x512 (m (c.tc.loc main_arg9) : FVec Ideal S512 .f32) shapeCasts_S512_S1x512
    ∧ V1 m ρ c main_v7 = shapeCast S1x512 (m (c.tc.loc main_arg11) : FVec Ideal S512 .f32) shapeCasts_S512_S1x512
    ∧ V1 m ρ c main_v8 = shapeCast S1x512 (m (c.tc.loc main_arg13) : FVec Ideal S512 .f32) shapeCasts_S512_S1x512
    ∧ V1 m ρ c main_v9 = shapeCast S1x512 (m (c.tc.loc main_arg15) : FVec Ideal S512 .f32) shapeCasts_S512_S1x512 := by
  refine ⟨?_, ?_, ?_, ?_, ?_, ?_, ?_, ?_, ?_, ?_⟩ <;> (show StableHlo.after hostOps0 _ _ = _; after_reads_simp; rfl)

/-- The operands of the second pipeline: the first one's array, and the two flattened tensors. -/
theorem entry1 (c : Dev nD) :
    V3 m ρ c main_v10 = (dat0 (V1 m ρ) c).arrAt 16 cfg0.N
    ∧ V3 m ρ c main_v11 = shapeCast S256x65536 (m (c.tc.loc main_arg16) : FVec Ideal S256x256x256 .f32) shapeCasts_S256x256x256_S256x65536
    ∧ V3 m ρ c main_v12 = shapeCast S256x65536 (m (c.tc.loc main_arg17) : FVec Ideal S256x256x256 .f32) shapeCasts_S256x256x256_S256x65536 := by
  have h16 : W2 m ρ c (Proc.devRef .tc main_arg16) = m (c.tc.loc main_arg16) := W2_args m ρ c main_arg16 (by decide)
  have h17 : W2 m ρ c (Proc.devRef .tc main_arg17) = m (c.tc.loc main_arg17) := W2_args m ρ c main_arg17 (by decide)
  refine ⟨(W3_of m ρ c main_v10 (by decide)).trans (W2_arr m ρ c 16), ?_, ?_⟩
  · rw [← h16]; show StableHlo.after hostOps1 _ _ = _; after_reads_simp; rfl
  · rw [← h17]; show StableHlo.after hostOps1 _ _ = _; after_reads_simp; rfl

/-- The operands of the third pipeline: the second one's array flattened, and the class tensor turned. -/
theorem entry2 (c : Dev nD) :
    V5 m ρ c main_v14 = shapeCast S2x256x16384 ((dat1 (V3 m ρ) c).arrAt 3 cfg1.N : FVec Ideal S2x256x128x128 .f32) shapeCasts_S2x256x128x128_S2x256x16384
    ∧ V5 m ρ c main_v15 = transpose S5x256x256 [1, 2, 0] (m (c.tc.loc main_arg18) : FVec Ideal S256x5x256 .f32) transposes_S256x5x256_S5x256x256_1_2_0 := by
  have h18 : W4 m ρ c (Proc.devRef .tc main_arg18) = m (c.tc.loc main_arg18) := W4_args m ρ c main_arg18 (by decide)
  have h13 : W4 m ρ c (Proc.devRef .tc main_v13) = (dat1 (V3 m ρ) c).arrAt 3 cfg1.N := W4_arr m ρ c 3
  refine ⟨?_, ?_⟩
  · rw [← h13]; show StableHlo.after hostOps2 _ _ = _; after_reads_simp; rfl
  · rw [← h18]; show StableHlo.after hostOps2 _ _ = _; after_reads_simp

/-- The result: the third pipeline's array turned. -/
theorem exit2 (c : Dev nD) : W7 m ρ c (Proc.devRef .tc main_v17)
    = transpose S128x128x128x5 [2, 3, 0, 1] ((dat2 (V5 m ρ) c).arrAt 2 cfg2.N : FVec Ideal S128x5x128x128 .f32) transposes_S128x5x128x128_S128x128x128x5_2_3_0_1 := by
  have h16 : W6 m ρ c (Proc.devRef .tc main_v16) = (dat2 (V5 m ρ) c).arrAt 2 cfg2.N := W6_arr m ρ c 2
  rw [← h16]; show StableHlo.after hostOps3 _ _ = _; after_reads_simp

end Cert.Opinion

end
-- ==== Proof.Good.lean ====
/-
  What the precondition gives of the argument arrays.
-/
module

public import proofs.«01_k».proof.Proof.Answer

@[expose] public section

set_option maxRecDepth 16384

noncomputable section

namespace Cert.Opinion

open Idealize.ShloMosaic Cert.KernelIdeal

/-- Indices in range, and real encoder outputs, weights and tensors. The biases may be anything. -/
structure Good (E : FVec Ideal S1x512x768 .f32) (I J K : IVec S128x16 32) (A B C D F G : FVec Ideal S512x768 .f32)
    (Th Tt : FVec Ideal S256x256x256 .f32) (Tc : FVec Ideal S256x5x256 .f32) : Prop where
  enc : ∀ i, IsReal (E i)
  idx₁ : ∀ i, (I i).toNat < 512
  idx₂ : ∀ i, (J i).toNat < 512
  idx₃ : ∀ i, (K i).toNat < 512
  w₁ : ∀ i, IsReal (A i)
  w₂ : ∀ i, IsReal (B i)
  w₃ : ∀ i, IsReal (C i)
  w₄ : ∀ i, IsReal (D i)
  w₅ : ∀ i, IsReal (F i)
  w₆ : ∀ i, IsReal (G i)
  th : ∀ i, IsReal (Th i)
  tt : ∀ i, IsReal (Tt i)
  tc : ∀ i, IsReal (Tc i)

end Cert.Opinion

end
-- ==== Proof.KernelValue.lean ====
/-
  The kernel's result over the argument arrays.
-/
module

public import proofs.«01_k».proof.Proof.Run
public import proofs.«01_k».proof.Proof.Good

@[expose] public section

set_option maxRecDepth 16384

noncomputable section

namespace Cert.Opinion

open Idealize.ShloMosaic hiding ix1 ix2 ix3 ix4 ix5 eq_ix3 eq_ix4
open Idealize.ShloMosaic.ValueIdx Cert.KernelIdeal Cert.KernelIdeal.Gen
open scoped BigOperators

/-- A group's table over the reshaped operands is the table over the operands. -/
theorem poolAll_cast {E : FVec Ideal S1x512x768 .f32} {idx : IVec S128x16 32} {Wf Wb : FVec Ideal S512x768 .f32} {bf bb : FVec Ideal S512 .f32}
    (hidx : ∀ i, (idx i).toNat < 512) (hE : ∀ i, IsReal (E i)) (hWf : ∀ i, IsReal (Wf i)) (hWb : ∀ i, IsReal (Wb i)) (n : Fin 128) (q : Fin 256) :
    poolAll (shapeCast S2048x1 idx shapeCasts_S128x16_S2048x1) (shapeCast S512x768 E shapeCasts_S1x512x768_S512x768) Wf
      (shapeCast S1x512 bf shapeCasts_S512_S1x512) Wb (shapeCast S1x512 bb shapeCasts_S512_S1x512) (ix3 0 n q) = table E idx Wf bf Wb bb n q := by
  have hb : ∀ (b : FVec Ideal S512 .f32) (q : Fin 512), shapeCast S1x512 b shapeCasts_S512_S1x512 (ix2 0 q : S1x512.Idx) = b (ix1 q : S512.Idx) :=
    fun b q => shapeCast_apply _ _ _ _ (by
      rw [Shape.rowMajor_val_two, Shape.rowMajor_val_one]
      show q.val = 0 * 512 + q.val
      omega)
  have hi : ∀ (n : Fin 128) (s : Fin 16), shapeCast S2048x1 idx shapeCasts_S128x16_S2048x1 (ix2 ⟨n.val * 16 + s.val, by omega⟩ 0 : S2048x1.Idx)
      = idx (ix2 n s : S128x16.Idx) := fun n s => shapeCast_apply _ _ _ _ (by
      rw [Shape.rowMajor_val_two, Shape.rowMajor_val_two]
      show n.val * 16 + s.val = (n.val * 16 + s.val) * 1 + 0
      omega)
  have he : ∀ (r : Fin 512) (k : Fin 768), shapeCast S512x768 E shapeCasts_S1x512x768_S512x768 (ix2 r k : S512x768.Idx)
      = E (ix3 0 r k : S1x512x768.Idx) := fun r k => shapeCast_apply _ _ _ _ (by
      rw [Shape.rowMajor_val_two, Shape.rowMajor_val_three]
      show (0 * 512 + r.val) * 768 + k.val = r.val * 768 + k.val
      omega)
  have h1 : ∀ i, (shapeCast S2048x1 idx shapeCasts_S128x16_S2048x1 i).toNat < 512 := fun i => hidx _
  have h2 : ∀ i, IsReal (shapeCast S512x768 E shapeCasts_S1x512x768_S512x768 i) := fun i => hE _
  refine (poolAll_apply h1 h2 hWf hWb (ix3 0 n q)).trans ?_
  simp only [hb, hi, he]
  rfl

/-- The array of pair tables over the flattened tensors: the holders' half. -/
theorem pairArr_cast_left (H : FVec Ideal S3x128x256 .f32) (Th Tt : FVec Ideal S256x256x256 .f32) (b : Fin 256) (k i : Fin 128) :
    pairArr H (shapeCast S256x65536 Th shapeCasts_S256x256x256_S256x65536) (shapeCast S256x65536 Tt shapeCasts_S256x256x256_S256x65536)
      (ix4 0 b k i : S2x256x128x128.Idx)
      = pairOf (fun k c => H (ix3 2 k c)) (fun n a => H (ix3 0 n a)) (fun a b c => Th (ix3 a b c)) b k i := by
  have hT : ∀ a b c : Fin 256, shapeCast S256x65536 Th shapeCasts_S256x256x256_S256x65536 (ix2 a ⟨256 * b.val + c.val, by omega⟩ : S256x65536.Idx)
      = Th (ix3 a b c : S256x256x256.Idx) := fun a b c => shapeCast_apply _ _ _ _ (by
      rw [Shape.rowMajor_val_two, Shape.rowMajor_val_three]
      show (a.val * 256 + b.val) * 256 + c.val = a.val * 65536 + (256 * b.val + c.val)
      omega)
  exact congrArg (fun T => pairOf (fun k c => H (ix3 2 k c)) (fun n a => H (ix3 0 n a)) T b k i)
    (funext fun a => funext fun b => funext fun c => hT a b c)

/-- The targets' half. -/
theorem pairArr_cast_right (H : FVec Ideal S3x128x256 .f32) (Th Tt : FVec Ideal S256x256x256 .f32) (b : Fin 256) (k i : Fin 128) :
    pairArr H (shapeCast S256x65536 Th shapeCasts_S256x256x256_S256x65536) (shapeCast S256x65536 Tt shapeCasts_S256x256x256_S256x65536)
      (ix4 1 b k i : S2x256x128x128.Idx)
      = pairOf (fun k c => H (ix3 2 k c)) (fun n a => H (ix3 1 n a)) (fun a b c => Tt (ix3 a b c)) b k i := by
  have hT : ∀ a b c : Fin 256, shapeCast S256x65536 Tt shapeCasts_S256x256x256_S256x65536 (ix2 a ⟨256 * b.val + c.val, by omega⟩ : S256x65536.Idx)
      = Tt (ix3 a b c : S256x256x256.Idx) := fun a b c => shapeCast_apply _ _ _ _ (by
      rw [Shape.rowMajor_val_two, Shape.rowMajor_val_three]
      show (a.val * 256 + b.val) * 256 + c.val = a.val * 65536 + (256 * b.val + c.val)
      omega)
  exact congrArg (fun T => pairOf (fun k c => H (ix3 2 k c)) (fun n a => H (ix3 1 n a)) T b k i)
    (funext fun a => funext fun b => funext fun c => hT a b c)

/-- The array of predictions over the flattened pair tables and the turned class tensor. -/
theorem predArr_cast (P : FVec Ideal S2x256x128x128 .f32) (T : FVec Ideal S256x5x256 .f32) (i j k : Fin 128) (m : Fin 5) :
    predArr (shapeCast S2x256x16384 P shapeCasts_S2x256x128x128_S2x256x16384) (transpose S5x256x256 [1, 2, 0] T transposes_S256x5x256_S5x256x256_1_2_0)
      (ix4 k m i j : S128x5x128x128.Idx)
      = predOf (fun b m c => T (ix3 b m c)) (fun c k i => P (ix4 0 c k i)) (fun b k j => P (ix4 1 b k j)) i j k m := by
  have hP : ∀ (g : Fin 2) (c : Fin 256) (k i : Fin 128), shapeCast S2x256x16384 P shapeCasts_S2x256x128x128_S2x256x16384
      (ix3 g c ⟨128 * k.val + i.val, by omega⟩ : S2x256x16384.Idx) = P (ix4 g c k i : S2x256x128x128.Idx) := fun g c k i => shapeCast_apply _ _ _ _ (by
      rw [Shape.rowMajor_val_three, Shape.rowMajor_val_four]
      show ((g.val * 256 + c.val) * 128 + k.val) * 128 + i.val = (g.val * 256 + c.val) * 16384 + (128 * k.val + i.val)
      omega)
  have hT : ∀ (m : Fin 5) (c b : Fin 256), transpose S5x256x256 [1, 2, 0] T transposes_S256x5x256_S5x256x256_1_2_0 (ix3 m c b : S5x256x256.Idx)
      = T (ix3 b m c : S256x5x256.Idx) := fun m c b => transpose_apply _ _ _ _ _ fun d => by
        match d with
        | ⟨0, _⟩ => rfl
        | ⟨1, _⟩ => rfl
        | ⟨2, _⟩ => rfl
  refine Finset.sum_congr rfl fun b _ => congrArg₂ (· * ·) (Finset.sum_congr rfl fun c _ => congrArg₂ (· * ·) (hT m c b) (hP 0 c k i)) (hP 1 b k j)

variable (m : (ℓ : Loc nD τ sig) → Buf (Elt Ideal) ℓ) (ρ : Dev nD → PrngReg)

/-- What the precondition gives of a core's argument arrays. -/
def GoodAt (c : Dev nD) : Prop :=
  Good (m (c.tc.loc main_arg0)) (m (c.tc.loc main_arg1)) (m (c.tc.loc main_arg2)) (m (c.tc.loc main_arg3)) (m (c.tc.loc main_arg4))
    (m (c.tc.loc main_arg6)) (m (c.tc.loc main_arg8)) (m (c.tc.loc main_arg10)) (m (c.tc.loc main_arg12)) (m (c.tc.loc main_arg14))
    (m (c.tc.loc main_arg16)) (m (c.tc.loc main_arg17)) (m (c.tc.loc main_arg18))

/-- The holders' table of a core. -/
def tableH (c : Dev nD) : Fin 128 → Fin 256 → EReal := table (m (c.tc.loc main_arg0)) (m (c.tc.loc main_arg1)) (m (c.tc.loc main_arg4))
  (m (c.tc.loc main_arg5)) (m (c.tc.loc main_arg6)) (m (c.tc.loc main_arg7))

/-- The targets' table of a core. -/
def tableT (c : Dev nD) : Fin 128 → Fin 256 → EReal := table (m (c.tc.loc main_arg0)) (m (c.tc.loc main_arg2)) (m (c.tc.loc main_arg8))
  (m (c.tc.loc main_arg9)) (m (c.tc.loc main_arg10)) (m (c.tc.loc main_arg11))

/-- The expressions' table of a core. -/
def tableE (c : Dev nD) : Fin 128 → Fin 256 → EReal := table (m (c.tc.loc main_arg0)) (m (c.tc.loc main_arg3)) (m (c.tc.loc main_arg12))
  (m (c.tc.loc main_arg13)) (m (c.tc.loc main_arg14)) (m (c.tc.loc main_arg15))

/-- An array of three groups' tables, read in each group. -/
theorem poolArr_apply {X : FVec Ideal S3x128x256 .f32} (A B C : FVec Ideal S1x128x256 .f32) (n : Fin 128) (q : Fin 256)
    (h : ∀ j, X j = poolArr A B C j) :
    X (ix3 0 n q) = A (ix3 0 n q) ∧ X (ix3 1 n q) = B (ix3 0 n q) ∧ X (ix3 2 n q) = C (ix3 0 n q) := ⟨h _, h _, h _⟩

/-- Real in each group is real. -/
theorem isReal_of_groups {X : FVec Ideal S3x128x256 .f32} (h0 : ∀ n q, IsReal (X (ix3 0 n q))) (h1 : ∀ n q, IsReal (X (ix3 1 n q)))
    (h2 : ∀ n q, IsReal (X (ix3 2 n q))) (j : S3x128x256.Idx) : IsReal (X j) := by
  have hg : ∀ (g : Fin 3) n q, IsReal (X (ix3 g n q)) := fun g => match g with | 0 => h0 | 1 => h1 | 2 => h2
  rw [eq_ix3 (n0 := 3) (n1 := 128) (n2 := 256) j]
  exact hg _ _ _

/-- Real in each half is real. -/
theorem isReal_of_halves {X : FVec Ideal S2x256x128x128 .f32} (h0 : ∀ b k i, IsReal (X (ix4 0 b k i))) (h1 : ∀ b k i, IsReal (X (ix4 1 b k i)))
    (j : S2x256x128x128.Idx) : IsReal (X j) := by
  have hg : ∀ (g : Fin 2) b k i, IsReal (X (ix4 g b k i)) := fun g => match g with | 0 => h0 | 1 => h1
  rw [eq_ix4 (n0 := 2) (n1 := 256) (n2 := 128) (n3 := 128) j]
  exact hg _ _ _ _

/-- The first pipeline's array, group by group. -/
theorem pool_value (c : Dev nD) (h : GoodAt m c) (n : Fin 128) (q : Fin 256) :
    (V3 m ρ c main_v10 : FVec Ideal S3x128x256 .f32) (ix3 0 n q) = tableH m c n q
    ∧ (V3 m ρ c main_v10 : FVec Ideal S3x128x256 .f32) (ix3 1 n q) = tableT m c n q
    ∧ (V3 m ρ c main_v10 : FVec Ideal S3x128x256 .f32) (ix3 2 n q) = tableE m c n q := by
  obtain ⟨e0, e1, e2, e3, e4, e5, e6, e7, e8, e9⟩ := entry0 m ρ c
  have a4 : V1 m ρ c main_arg4 = m (c.tc.loc main_arg4) := W1_args m ρ c main_arg4 (by decide)
  have a6 : V1 m ρ c main_arg6 = m (c.tc.loc main_arg6) := W1_args m ρ c main_arg6 (by decide)
  have a8 : V1 m ρ c main_arg8 = m (c.tc.loc main_arg8) := W1_args m ρ c main_arg8 (by decide)
  have a10 : V1 m ρ c main_arg10 = m (c.tc.loc main_arg10) := W1_args m ρ c main_arg10 (by decide)
  have a12 : V1 m ρ c main_arg12 = m (c.tc.loc main_arg12) := W1_args m ρ c main_arg12 (by decide)
  have a14 : V1 m ρ c main_arg14 = m (c.tc.loc main_arg14) := W1_args m ρ c main_arg14 (by decide)
  have hf := (entry1 m ρ c).1.trans (final0 (V1 m ρ) c)
  rw [e0, e1, e2, e3, e4, e5, e6, e7, e8, e9, a4, a6, a8, a10, a12, a14] at hf
  have hp := poolArr_apply _ _ _ n q (fun j => congrFun hf j)
  exact ⟨hp.1.trans (poolAll_cast h.idx₁ h.enc h.w₁ h.w₂ n q), hp.2.1.trans (poolAll_cast h.idx₂ h.enc h.w₃ h.w₄ n q),
    hp.2.2.trans (poolAll_cast h.idx₃ h.enc h.w₅ h.w₆ n q)⟩

/-- The second pipeline's array: the two halves' pair tables. -/
theorem pair_value (c : Dev nD) (h : GoodAt m c) (b : Fin 256) (k i : Fin 128) :
    ((dat1 (V3 m ρ) c).arrAt 3 cfg1.N : FVec Ideal S2x256x128x128 .f32) (ix4 0 b k i)
      = pairOf (tableE m c) (tableH m c) (fun a b c' => (m (c.tc.loc main_arg16) : FVec Ideal S256x256x256 .f32) (ix3 a b c')) b k i
    ∧ ((dat1 (V3 m ρ) c).arrAt 3 cfg1.N : FVec Ideal S2x256x128x128 .f32) (ix4 1 b k i)
      = pairOf (tableE m c) (tableT m c) (fun a b c' => (m (c.tc.loc main_arg17) : FVec Ideal S256x256x256 .f32) (ix3 a b c')) b k i := by
  obtain ⟨-, e1, e2⟩ := entry1 m ρ c
  have hv := pool_value m ρ c h
  have hH : ∀ j, IsReal ((V3 m ρ c main_v10 : FVec Ideal S3x128x256 .f32) j) := isReal_of_groups
    (fun n q => by rw [(hv n q).1]; exact isReal_table _ _ _ _ _ _ _ _) (fun n q => by rw [(hv n q).2.1]; exact isReal_table _ _ _ _ _ _ _ _)
    (fun n q => by rw [(hv n q).2.2]; exact isReal_table _ _ _ _ _ _ _ _)
  have h1 : ∀ j, IsReal ((V3 m ρ c main_v11 : FVec Ideal S256x65536 .f32) j) := by rw [e1]; exact fun j => h.th _
  have h2 : ∀ j, IsReal ((V3 m ρ c main_v12 : FVec Ideal S256x65536 .f32) j) := by rw [e2]; exact fun j => h.tt _
  rw [final1 (V3 m ρ) c hH h1 h2, e1, e2]
  have hE : (fun k c' => (V3 m ρ c main_v10 : FVec Ideal S3x128x256 .f32) (ix3 2 k c')) = tableE m c := funext fun k => funext fun c' => (hv k c').2.2
  have hT : (fun k c' => (V3 m ρ c main_v10 : FVec Ideal S3x128x256 .f32) (ix3 1 k c')) = tableT m c := funext fun k => funext fun c' => (hv k c').2.1
  have hh : (fun k c' => (V3 m ρ c main_v10 : FVec Ideal S3x128x256 .f32) (ix3 0 k c')) = tableH m c := funext fun k => funext fun c' => (hv k c').1
  refine ⟨(pairArr_cast_left _ _ _ b k i).trans ?_, (pairArr_cast_right _ _ _ b k i).trans ?_⟩
  · rw [hE, hh]
  · rw [hE, hT]

/-- The kernel's result. -/
theorem kernel_value (c : Dev nD) (h : GoodAt m c) : W7 m ρ c (Proc.devRef .tc main_v17)
    = answer (tableH m c) (tableT m c) (tableE m c) (m (c.tc.loc main_arg16)) (m (c.tc.loc main_arg17)) (m (c.tc.loc main_arg18)) := by
  obtain ⟨e1, e2⟩ := entry2 m ρ c
  have hp := pair_value m ρ c h
  have hP : ∀ j, IsReal (((dat1 (V3 m ρ) c).arrAt 3 cfg1.N : FVec Ideal S2x256x128x128 .f32) j) := isReal_of_halves
    (fun b k i => by rw [(hp b k i).1]; exact isReal_pairOf (isReal_table _ _ _ _ _ _) (isReal_table _ _ _ _ _ _) (fun _ _ _ => h.th _) _ _ _)
    (fun b k i => by rw [(hp b k i).2]; exact isReal_pairOf (isReal_table _ _ _ _ _ _) (isReal_table _ _ _ _ _ _) (fun _ _ _ => h.tt _) _ _ _)
  have h1 : ∀ j, IsReal ((V5 m ρ c main_v14 : FVec Ideal S2x256x16384 .f32) j) := by rw [e1]; exact fun j => hP _
  have h2 : ∀ j, IsReal ((V5 m ρ c main_v15 : FVec Ideal S5x256x256 .f32) j) := by rw [e2]; exact fun j => h.tc _
  have hf := final2 (V5 m ρ) c h1 h2
  rw [e1, e2] at hf
  rw [exit2, hf]
  funext y
  have ht := transpose_apply [2, 3, 0, 1] (predArr (shapeCast S2x256x16384 ((dat1 (V3 m ρ) c).arrAt 3 cfg1.N : FVec Ideal S2x256x128x128 .f32) shapeCasts_S2x256x128x128_S2x256x16384)
    (transpose S5x256x256 [1, 2, 0] (m (c.tc.loc main_arg18) : FVec Ideal S256x5x256 .f32) transposes_S256x5x256_S5x256x256_1_2_0))
    transposes_S128x5x128x128_S128x128x128x5_2_3_0_1 y (ix4 (y 2) (y 3) (y 0) (y 1) : S128x5x128x128.Idx) fun d => by
      match d with
      | ⟨0, _⟩ => rfl
      | ⟨1, _⟩ => rfl
      | ⟨2, _⟩ => rfl
      | ⟨3, _⟩ => rfl
  refine ht.trans ((predArr_cast _ _ (y 0) (y 1) (y 2) (y 3)).trans ?_)
  have hl := funext fun c' => funext fun k => funext fun i => (hp c' k i).1
  have hr := funext fun c' => funext fun k => funext fun i => (hp c' k i).2
  rw [hl, hr]
  rfl

end Cert.Opinion

end
-- ==== Proof.KernelRun.lean ====
/-
  The kernel's run: every execution ends with the result array at the predictions and the arguments as launched.
-/
module

public import proofs.«01_k».proof.Proof.KernelValue

@[expose] public section

set_option maxRecDepth 16384

noncomputable section

namespace Cert.Opinion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding plain
-- definitions in a metavariable's type
set_option backward.isDefEq.respectTransparency.types false in
/-- Every execution ends, and every buffer of a core that outlives the regions ends as the segments leave it. -/
theorem kernel_ends : θ_run (defs (F := Ideal)) (onTc (τ := τ) (main (F := Ideal))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.Opinion

end
-- ==== Proof.RefDots.lean ====
/-
  The reference's products of arrays at an index.
-/
module

public import proofs.«01_k».proof.Proof.Reals
public import proofs.«01_k».proof.Proof.Gen.ReferenceIdeal

@[expose] public section

set_option maxRecDepth 16384

noncomputable section

namespace Cert.Opinion

open Idealize.ShloMosaic Idealize.ShloMosaic.ValueIdx Cert.ReferenceIdeal Cert.ReferenceIdeal.Gen
open scoped BigOperators

/-- The projection: `∑ k, A[n,s,k] · B[k,q]`. -/
theorem dot_proj (A : FVec Ideal S128x16x768 .f32) (B : FVec Ideal S768x512 .f32) (j : S128x16x512.Idx) :
    Host.dotGeneral dot_S128x16x768_S768x512_S128x16x512_2_0_01_1_n_n none A B j = ∑ k : Fin 768, A (ix3 (j 0) (j 1) k) * B (ix2 k (j 2)) := by
  refine (Ideal.dotGeneral_apply _ _ _ A B j).trans (sum_contr (n := 768) _ rfl rfl _ _ fun q k hq => ?_)
  refine congrArg₂ (· * ·) (congrArg A (funext fun b => Fin.ext ?_)) (congrArg B (funext fun b => Fin.ext ?_))
  · match b with
    | ⟨0, _⟩ => rfl
    | ⟨1, _⟩ => rfl
    | ⟨2, _⟩ => exact hq
  · match b with
    | ⟨0, _⟩ => exact hq
    | ⟨1, _⟩ => rfl

/-- A tensor against a group's table: `∑ a, A[a,b,c] · B[n,a]`. -/
theorem dot_first (A : FVec Ideal S256x256x256 .f32) (B : FVec Ideal S128x256 .f32) (j : S256x256x128.Idx) :
    Host.dotGeneral dot_S256x256x256_S128x256_S256x256x128_0_1_12_0_n_n none A B j = ∑ a : Fin 256, A (ix3 a (j 0) (j 1)) * B (ix2 (j 2) a) := by
  refine (Ideal.dotGeneral_apply _ _ _ A B j).trans (sum_contr (n := 256) _ rfl rfl _ _ fun q k hq => ?_)
  refine congrArg₂ (· * ·) (congrArg A (funext fun b => Fin.ext ?_)) (congrArg B (funext fun b => Fin.ext ?_))
  · match b with
    | ⟨0, _⟩ => exact hq
    | ⟨1, _⟩ => rfl
    | ⟨2, _⟩ => rfl
  · match b with
    | ⟨0, _⟩ => rfl
    | ⟨1, _⟩ => exact hq

/-- That against the expressions' table: `∑ c, A[b,c,i] · B[k,c]`. -/
theorem dot_second (A : FVec Ideal S256x256x128 .f32) (B : FVec Ideal S128x256 .f32) (j : S256x128x128.Idx) :
    Host.dotGeneral dot_S256x256x128_S128x256_S256x128x128_1_1_02_0_n_n none A B j = ∑ c : Fin 256, A (ix3 (j 0) c (j 1)) * B (ix2 (j 2) c) := by
  refine (Ideal.dotGeneral_apply _ _ _ A B j).trans (sum_contr (n := 256) _ rfl rfl _ _ fun q k hq => ?_)
  refine congrArg₂ (· * ·) (congrArg A (funext fun b => Fin.ext ?_)) (congrArg B (funext fun b => Fin.ext ?_))
  · match b with
    | ⟨0, _⟩ => rfl
    | ⟨1, _⟩ => exact hq
    | ⟨2, _⟩ => rfl
  · match b with
    | ⟨0, _⟩ => rfl
    | ⟨1, _⟩ => exact hq

/-- The class tensor against a pair table: `∑ a, A[a,m,b] · B[j,k,a]`. -/
theorem dot_third (A : FVec Ideal S256x5x256 .f32) (B : FVec Ideal S128x128x256 .f32) (j : S5x256x128x128.Idx) :
    Host.dotGeneral dot_S256x5x256_S128x128x256_S5x256x128x128_0_2_12_01_n_n none A B j
      = ∑ a : Fin 256, A (ix3 a (j 0) (j 1)) * B (ix3 (j 2) (j 3) a) := by
  refine (Ideal.dotGeneral_apply _ _ _ A B j).trans (sum_contr (n := 256) _ rfl rfl _ _ fun q k hq => ?_)
  refine congrArg₂ (· * ·) (congrArg A (funext fun b => Fin.ext ?_)) (congrArg B (funext fun b => Fin.ext ?_))
  · match b with
    | ⟨0, _⟩ => exact hq
    | ⟨1, _⟩ => rfl
    | ⟨2, _⟩ => rfl
  · match b with
    | ⟨0, _⟩ => rfl
    | ⟨1, _⟩ => rfl
    | ⟨2, _⟩ => exact hq

/-- That against the other pair table, one expression at a time: `∑ c, A[m,c,j,k] · B[i,k,c]`. -/
theorem dot_fourth (A : FVec Ideal S5x256x128x128 .f32) (B : FVec Ideal S128x128x256 .f32) (j : S128x5x128x128.Idx) :
    Host.dotGeneral dot_S5x256x128x128_S128x128x256_S128x5x128x128_1_2_02_0_3_1 none A B j
      = ∑ c : Fin 256, A (ix4 (j 1) c (j 2) (j 0)) * B (ix3 (j 3) (j 0) c) := by
  refine (Ideal.dotGeneral_apply _ _ _ A B j).trans (sum_contr (n := 256) _ rfl rfl _ _ fun q k hq => ?_)
  refine congrArg₂ (· * ·) (congrArg A (funext fun b => Fin.ext ?_)) (congrArg B (funext fun b => Fin.ext ?_))
  · match b with
    | ⟨0, _⟩ => rfl
    | ⟨1, _⟩ => exact hq
    | ⟨2, _⟩ => rfl
    | ⟨3, _⟩ => rfl
  · match b with
    | ⟨0, _⟩ => rfl
    | ⟨1, _⟩ => rfl
    | ⟨2, _⟩ => exact hq

end Cert.Opinion

end
-- ==== Proof.RefGather.lean ====
/-
  The reference's reading of the sequence's rows at an array of indices.
-/
module

public import proofs.«01_k».proof.Proof.Spec
public import proofs.«01_k».proof.Proof.Gen.ReferenceIdeal
public import Idealize.ShloMosaic.Lib.Pipeline.Value
public import Idealize.ShloMosaic.Lib.WordCmp

@[expose] public section

set_option maxRecDepth 16384

noncomputable section

namespace Cert.Opinion

open Idealize.ShloMosaic Idealize.ShloMosaic.ValueIdx Idealize.ShloMosaic.WordCmp Cert.ReferenceIdeal Cert.ReferenceIdeal.Gen

/-- The row the reading starts at, on the first axis: the index, kept within the table. -/
theorem start_rows (idx : IVec S128x16x1 32) (n : Fin 128) (s : Fin 16) (k : Fin 768) :
    gather_S512x768_S128x16x1_S128x16x768_2_0_n_n_0_2_1768.start (ix3 n s k) idx 0 = min (idx (ix3 n s 0)).toInt.toNat 511 := by
  have hm : (0 : Fin S512x768.rank) ∈ gather_S512x768_S128x16x1_S128x16x768_2_0_n_n_0_2_1768.startIndexMap := List.mem_singleton.mpr rfl
  have hi : gather_S512x768_S128x16x1_S128x16x768_2_0_n_n_0_2_1768.siIdx (ix3 n s k) ⟨_, List.idxOf_lt_length_iff.2 hm⟩ = ix3 n s 0 := by
    funext b; apply Fin.ext
    match b with
    | ⟨0, _⟩ => rfl
    | ⟨1, _⟩ => rfl
    | ⟨2, _⟩ => rfl
  unfold GatherDims.start
  rw [dif_pos hm]
  exact congrArg (fun i => min (idx i).toInt.toNat 511) hi

/-- The reading at (n, s, k): entry `k` of the row the index of (n, s) names, kept within the table. -/
theorem gather_rows {α : Type} (x : S512x768.Idx → α) (idx : IVec S128x16x1 32) (n : Fin 128) (s : Fin 16) (k : Fin 768) :
    Host.gather gather_S512x768_S128x16x1_S128x16x768_2_0_n_n_0_2_1768 x idx (ix3 n s k)
      = x (ix2 ⟨min (idx (ix3 n s 0)).toInt.toNat 511, by omega⟩ k) := by
  refine congrArg x (funext fun a => Fin.ext ?_)
  match a with
  | ⟨0, _⟩ =>
    show GatherDims.start _ _ idx (0 : Fin S512x768.rank) + GatherDims.batchCoord _ _ (0 : Fin S512x768.rank)
      + GatherDims.offCoord _ _ (0 : Fin S512x768.rank) = _
    rw [start_rows, GatherDims.batchCoord_eq_zero _ _ _ List.not_mem_nil,
      GatherDims.offCoord_eq_zero _ _ _ fun h => ((GatherDims.mem_sKept _ _).mp h).1 (List.mem_singleton.mpr rfl)]
    rfl
  | ⟨1, _⟩ =>
    have h1 : gather_S512x768_S128x16x1_S128x16x768_2_0_n_n_0_2_1768.start (ix3 n s k) idx 1 = 0 := by
      unfold GatherDims.start
      exact dif_neg fun h => absurd (List.mem_singleton.mp h) (by decide)
    have h2 : gather_S512x768_S128x16x1_S128x16x768_2_0_n_n_0_2_1768.offCoord (ix3 n s k) 1 = k.val := by
      unfold GatherDims.offCoord
      rw [dif_pos ((GatherDims.mem_sKept _ _).mpr ⟨fun h => absurd (List.mem_singleton.mp h) (by decide), List.not_mem_nil⟩)]
      rfl
    show GatherDims.start _ _ idx (1 : Fin S512x768.rank) + GatherDims.batchCoord _ _ (1 : Fin S512x768.rank)
      + GatherDims.offCoord _ _ (1 : Fin S512x768.rank) = _
    rw [h1, h2, GatherDims.batchCoord_eq_zero _ _ _ List.not_mem_nil, Nat.zero_add]

/-- The indices with a negative one counted from the end, as the reference reads them. -/
def wrapped (idx : IVec S128x16 32) : IVec S128x16 32 :=
  select (cmpi .slt idx (broadcastInDim S128x16 ![] bcast_S_S128x16 (constantI S_ 32 0#32)))
    (addi idx (broadcastInDim S128x16 ![] bcast_S_S128x16 (constantI S_ 32 512#32))) idx

/-- An index in range is read as it is. -/
theorem wrapped_apply (idx : IVec S128x16 32) (i : S128x16.Idx) (h : (idx i).toNat < 512) : wrapped idx i = idx i := by
  have hc : IntOp.cmpi .slt (idx i) 0#32 = 0#1 := by
    rw [cmpi_slt_zero, decide_eq_false (by omega)]; rfl
  show Scalar.select (IntOp.cmpi .slt (idx i) 0#32) _ (idx i) = idx i
  rw [hc]; exact if_neg (by decide)

/-- The rows of the sequence an array of indices names, as the reference reads them. -/
def rowsOf (E : FVec Ideal S1x512x768 .f32) (idx : IVec S128x16 32) : FVec Ideal S128x16x768 .f32 :=
  Host.gather gather_S512x768_S128x16x1_S128x16x768_2_0_n_n_0_2_1768 (shapeCast S512x768 E shapeCasts_S1x512x768_S512x768)
    (broadcastInDim S128x16x1 ![0, 1] bcast_S128x16_S128x16x1_0_1 (wrapped idx))

/-- Those rows at (n, s, k), of an index in range. -/
theorem rowsOf_apply (E : FVec Ideal S1x512x768 .f32) (idx : IVec S128x16 32) (n : Fin 128) (s : Fin 16) (k : Fin 768)
    (h : (idx (ix2 n s)).toNat < 512) : rowsOf E idx (ix3 n s k) = E (ix3 0 (rowOf (idx (ix2 n s))) k) := by
  have hw : broadcastInDim S128x16x1 ![0, 1] bcast_S128x16_S128x16x1_0_1 (wrapped idx) (ix3 n s 0) = idx (ix2 n s) :=
    (broadcastInDim_apply _ _ _ _ (ix2 n s : S128x16.Idx) fun a => by
      match a with
      | ⟨0, _⟩ => rfl
      | ⟨1, _⟩ => rfl).trans (wrapped_apply idx (ix2 n s) h)
  have hr : min (idx (ix2 n s)).toInt.toNat 511 = (rowOf (idx (ix2 n s))).val := by
    rw [toInt_eq_toNat_of_lt_half (by omega), Int.toNat_natCast]
    show _ = (idx (ix2 n s)).toNat % 512
    omega
  refine (gather_rows _ _ n s k).trans (shapeCast_apply _ _ _ (ix3 0 (rowOf (idx (ix2 n s))) k : S1x512x768.Idx) ?_)
  rw [Shape.rowMajor_val_three, Shape.rowMajor_val_two]
  show (0 * 512 + (rowOf (idx (ix2 n s))).val) * 768 + k.val = min _ 511 * 768 + k.val
  rw [hw, hr, Nat.zero_mul, Nat.zero_add]

end Cert.Opinion

end
-- ==== Proof.RefGroup.lean ====
/-
  One group of spans in the reference: its gates, its hidden states, and its pooled table.
-/
module

public import proofs.«01_k».proof.Proof.RefDots
public import proofs.«01_k».proof.Proof.RefGather
public import proofs.«01_k».proof.Proof.Answer
public import Idealize.ShloMosaic.Lib.KernelVsHost

@[expose] public section

set_option maxRecDepth 16384

noncomputable section

namespace Cert.Opinion

open Idealize.ShloMosaic Idealize.ShloMosaic.ValueIdx Cert.ReferenceIdeal Cert.ReferenceIdeal.Gen
open scoped BigOperators

/-- The gates of every token in one direction: its row against the weights, plus the bias. -/
def gatesR (E : FVec Ideal S1x512x768 .f32) (I : IVec S128x16 32) (W : FVec Ideal S512x768 .f32) (b : FVec Ideal S512 .f32) :
    FVec Ideal S128x16x512 .f32 :=
  addf (Host.dotGeneral dot_S128x16x768_S768x512_S128x16x512_2_0_01_1_n_n none (rowsOf E I)
      (transpose S768x512 [1, 0] W transposes_S512x768_S768x512_1_0))
    (broadcastInDim S128x16x512 ![0, 1, 2] bcast_S1x1x512_S128x16x512_0_1_2 (broadcastInDim S1x1x512 ![2] bcast_S512_S1x1x512_2 b))

/-- The gates at (n, s, q), of an index in range: gate `q` of the row the index names. -/
theorem gatesR_apply (E : FVec Ideal S1x512x768 .f32) (I : IVec S128x16 32) (W : FVec Ideal S512x768 .f32) (b : FVec Ideal S512 .f32)
    (n : Fin 128) (s : Fin 16) (q : Fin 512) (h : (I (ix2 n s)).toNat < 512) :
    gatesR E I W b (ix3 n s q)
      = gate (fun r k => E (ix3 0 r k)) (fun q k => W (ix2 q k)) (fun q => b (ix1 q)) (rowOf (I (ix2 n s))) q := by
  have h1 : broadcastInDim S128x16x512 ![0, 1, 2] bcast_S1x1x512_S128x16x512_0_1_2
      (broadcastInDim S1x1x512 ![2] bcast_S512_S1x1x512_2 b) (ix3 n s q) = b (ix1 q) :=
    (broadcastInDim_apply _ _ _ _ (ix3 0 0 q : S1x1x512.Idx) fun a => by
      match a with
      | ⟨0, _⟩ => rfl
      | ⟨1, _⟩ => rfl
      | ⟨2, _⟩ => rfl).trans
    (broadcastInDim_apply _ _ _ _ (ix1 q : S512.Idx) fun a => by
      match a with
      | ⟨0, _⟩ => rfl)
  have h2 : ∀ k : Fin 768, transpose S768x512 [1, 0] W transposes_S512x768_S768x512_1_0 (ix2 k q) = W (ix2 q k) := fun k =>
    transpose_apply _ _ _ _ (ix2 q k : S512x768.Idx) fun a => by
      match a with
      | ⟨0, _⟩ => rfl
      | ⟨1, _⟩ => rfl
  refine congrArg₂ (· + ·) ((dot_proj _ _ (ix3 n s q)).trans (Finset.sum_congr rfl fun k _ => ?_)) h1
  exact congrArg₂ (· * ·) (rowsOf_apply E I n s k h) (h2 k)

/-- The logistic function of every entry, written out as one over one plus the exponential of the negated entry. -/
def sigR (x : FVec Ideal S128x16x128 .f32) : FVec Ideal S128x16x128 .f32 :=
  Host.divf (broadcastInDim S128x16x128 ![] bcast_S_S128x16x128 (constant S_ .f32 0x3F800000#32))
    (addf (broadcastInDim S128x16x128 ![] bcast_S_S128x16x128 (constant S_ .f32 0x3F800000#32)) (Host.exp (Host.negf x)))

theorem ofBits_one : Ideal.ofBits .f32 0x3F800000#32 = 1 := by
  simp [Ideal.ofBits, Ideal.ieee, -EReal.coe_mul]; norm_num

theorem sigR_apply (x : FVec Ideal S128x16x128 .f32) (i : S128x16x128.Idx) : sigR x i = Ideal.logistic (x i) := by
  show Ideal.div (Ideal.ofBits .f32 0x3F800000#32) (Ideal.ofBits .f32 0x3F800000#32 + Ideal.exp (-(x i))) = _
  rw [ofBits_one]; rfl

/-- The hidden states of one direction from its gates. -/
def hiddenR (G : FVec Ideal S128x16x512 .f32) : FVec Ideal S128x16x128 .f32 :=
  mulf (sigR (extractStridedSlice S128x16x128 ![0, 0, 384] G slices_S128x16x512_S128x16x128_0_0_384))
    (Host.tanh (mulf (sigR (extractStridedSlice S128x16x128 ![0, 0, 0] G slices_S128x16x512_S128x16x128_0_0_0))
      (Host.tanh (extractStridedSlice S128x16x128 ![0, 0, 256] G slices_S128x16x512_S128x16x128_0_0_256))))

theorem hiddenR_apply (G : FVec Ideal S128x16x512 .f32) (n : Fin 128) (s : Fin 16) (u : Fin 128) :
    hiddenR G (ix3 n s u) = cell (fun q => G (ix3 n s q)) u := by
  have hs : ∀ (off : ℕ) (h : S128x16x512.Slices ![0, 0, off] S128x16x128) (q : Fin 512), q.val = off + u.val →
      extractStridedSlice S128x16x128 ![0, 0, off] G h (ix3 n s u) = G (ix3 n s q) := fun off h q hq =>
    extractStridedSlice_apply _ G h _ _ fun a => by
      match a with
      | ⟨0, _⟩ => exact (Nat.zero_add _).symm
      | ⟨1, _⟩ => exact (Nat.zero_add _).symm
      | ⟨2, _⟩ => exact hq
  have e0 := hs 0 slices_S128x16x512_S128x16x128_0_0_0 ⟨u.val, by omega⟩ (Nat.zero_add _).symm
  have e1 := hs 256 slices_S128x16x512_S128x16x128_0_0_256 ⟨256 + u.val, by omega⟩ rfl
  have e2 := hs 384 slices_S128x16x512_S128x16x128_0_0_384 ⟨384 + u.val, by omega⟩ rfl
  exact congrArg₂ (· * ·) ((sigR_apply _ _).trans (congrArg Ideal.logistic e2))
    (congrArg Ideal.tanh (congrArg₂ (· * ·) ((sigR_apply _ _).trans (congrArg Ideal.logistic e0)) (congrArg Ideal.tanh e1)))

/-- A group's table: the two directions' states side by side, the largest over a span's tokens. -/
def poolR (Gf Gb : FVec Ideal S128x16x512 .f32) : FVec Ideal S128x256 .f32 :=
  Host.reduce FloatOps.maximumf
    (concatenate S128x16x256 2 [⟨S128x16x128, hiddenR Gf⟩, ⟨S128x16x128, hiddenR Gb⟩] concatenates_S128x16x128_S128x16x128_S128x16x256_d2)
    (constant S_ .f32 0xFF800000#32) reducesTo_S128x16x256_S128x256_d1 h_S_

theorem ofBits_bot : Ideal.ofBits .f32 0xFF800000#32 = ⊥ := by simp [Ideal.ofBits, Ideal.ieee]

theorem reduces_tokens : S128x16x256.Reduces [1] S128x256 := by decide

/-- The largest over a span's tokens of an array. -/
theorem reduce_tokens (x : FVec Ideal S128x16x256 .f32) (n : Fin 128) (q : Fin 256) :
    Host.reduce FloatOps.maximumf x (constant S_ .f32 0xFF800000#32) reducesTo_S128x16x256_S128x256_d1 h_S_ (ix2 n q)
      = Finset.univ.fold max ⊥ fun s : Fin 16 => x (ix3 n s q) := by
  have h := congrFun (hostReduce_maximumf_eq_multiReduction x 0xFF800000#32 reducesTo_S128x16x256_S128x256_d1 h_S_
    reduces_tokens (.inl rfl) rfl) (ix2 n q)
  refine h.trans ((Ideal.multiReduction_maximumf_single (a := 1) x _ reduces_tokens _ _ (ix2 n q)).trans ?_)
  rw [show FloatOps.ofBits (F := Ideal) .f32 0xFF800000#32 = ⊥ from ofBits_bot]
  refine congrArg (Finset.univ.fold max ⊥) (funext fun s : Fin 16 => congrArg x (funext fun a => Fin.ext ?_))
  match a with
  | ⟨0, _⟩ => rfl
  | ⟨1, _⟩ => rfl
  | ⟨2, _⟩ => rfl

/-- A group's table at (n, q), of indices in range: the pooled state. -/
theorem group_apply (E : FVec Ideal S1x512x768 .f32) (I : IVec S128x16 32) (Wf : FVec Ideal S512x768 .f32) (bf : FVec Ideal S512 .f32)
    (Wb : FVec Ideal S512x768 .f32) (bb : FVec Ideal S512 .f32) (hI : ∀ i, (I i).toNat < 512) (n : Fin 128) (q : Fin 256) :
    poolR (gatesR E I Wf bf) (gatesR E I Wb bb) (ix2 n q) = table E I Wf bf Wb bb n q := by
  unfold table pooled
  refine (reduce_tokens _ n q).trans (congrArg (Finset.univ.fold max ⊥) (funext fun s : Fin 16 => ?_))
  have hG : ∀ (W : FVec Ideal S512x768 .f32) (b : FVec Ideal S512 .f32) (u : Fin 128), hiddenR (gatesR E I W b) (ix3 n s u)
      = cell (gate (fun r k => E (ix3 0 r k)) (fun q k => W (ix2 q k)) (fun q => b (ix1 q)) (rowOf (I (ix2 n s)))) u := fun W b u =>
    (hiddenR_apply _ n s u).trans (congrArg (fun g => cell g u) (funext fun q => gatesR_apply E I W b n s q (hI _)))
  by_cases h : q.val < 128
  · refine Eq.trans ?_ ((hG Wf bf ⟨q.val, h⟩).trans (state_left _ _ _ _ _ _ q h).symm)
    refine concatenate_pair_apply_left (2 : Fin S128x16x256.rank) (hiddenR (gatesR E I Wf bf)) (hiddenR (gatesR E I Wb bb))
      concatenates_S128x16x128_S128x16x128_S128x16x256_d2 _ rfl (ix3 n s ⟨q.val, h⟩ : S128x16x128.Idx) fun b => ?_
    match b with
    | ⟨0, _⟩ => rfl
    | ⟨1, _⟩ => rfl
    | ⟨2, _⟩ => rfl
  · refine Eq.trans ?_ ((hG Wb bb ⟨q.val - 128, by omega⟩).trans (state_right _ _ _ _ _ _ q h).symm)
    refine concatenate_pair_apply_right (2 : Fin S128x16x256.rank) (hiddenR (gatesR E I Wf bf)) (hiddenR (gatesR E I Wb bb))
      concatenates_S128x16x128_S128x16x128_S128x16x256_d2 _ rfl rfl (ix3 n s ⟨q.val - 128, by omega⟩ : S128x16x128.Idx) (fun b hb => ?_) ?_
    · match b with
      | ⟨0, _⟩ => rfl
      | ⟨1, _⟩ => rfl
      | ⟨2, _⟩ => exact absurd rfl hb
    · show q.val - 128 + 128 = q.val; omega

end Cert.Opinion

end
-- ==== Proof.RefValue.lean ====
/-
  The reference's result as a function of its arguments: the predictions over the three groups' pooled tables.
-/
module

public import proofs.«01_k».proof.Proof.RefGroup
public import proofs.«01_k».proof.Proof.Good
public import proofs.«01_k».proof.Proof.Gen.ReferenceIdeal.Run

@[expose] public section

set_option maxRecDepth 16384

noncomputable section

namespace Cert.Opinion

open Idealize.ShloMosaic Idealize.ShloMosaic.ValueIdx Cert.ReferenceIdeal Cert.ReferenceIdeal.Gen
open Idealize.ShloMosaic.StableHlo Idealize.SL.Sem
open scoped BigOperators

/-- A pair table of the reference, from a tensor, a group's table and the expressions' table. -/
def pairR (T : FVec Ideal S256x256x256 .f32) (H X : FVec Ideal S128x256 .f32) : FVec Ideal S128x128x256 .f32 :=
  transpose S128x128x256 [1, 2, 0] (Host.dotGeneral dot_S256x256x128_S128x256_S256x128x128_1_1_02_0_n_n none
    (Host.dotGeneral dot_S256x256x256_S128x256_S256x256x128_0_1_12_0_n_n none T H) X) transposes_S256x128x128_S128x128x256_1_2_0

/-- A pair table at (i, k, b). -/
theorem pairR_apply (T : FVec Ideal S256x256x256 .f32) {H X : FVec Ideal S128x256 .f32} {h x : Fin 128 → Fin 256 → EReal}
    (hH : ∀ n q, H (ix2 n q) = h n q) (hX : ∀ n q, X (ix2 n q) = x n q) (i k : Fin 128) (b : Fin 256) :
    pairR T H X (ix3 i k b) = pairOf x h (fun a b c => T (ix3 a b c)) b k i := by
  have ht : pairR T H X (ix3 i k b) = Host.dotGeneral dot_S256x256x128_S128x256_S256x128x128_1_1_02_0_n_n none
      (Host.dotGeneral dot_S256x256x256_S128x256_S256x256x128_0_1_12_0_n_n none T H) X (ix3 b i k) :=
    transpose_apply _ _ _ _ (ix3 b i k : S256x128x128.Idx) fun a => by
      match a with
      | ⟨0, _⟩ => rfl
      | ⟨1, _⟩ => rfl
      | ⟨2, _⟩ => rfl
  refine ht.trans ((dot_second _ X (ix3 b i k)).trans (Finset.sum_congr rfl fun c _ => ?_))
  refine (mul_comm _ _).trans (congrArg₂ (· * ·) (hX k c) ?_)
  refine (dot_first T H (ix3 b c i)).trans (Finset.sum_congr rfl fun a _ => ?_)
  exact (mul_comm _ _).trans (congrArg (· * T (ix3 a b c)) (hH i a))

/-- The reference's result from the three tensors and the three groups' tables. -/
def answerR (Th Tt : FVec Ideal S256x256x256 .f32) (Tc : FVec Ideal S256x5x256 .f32) (H T X : FVec Ideal S128x256 .f32) :
    FVec Ideal S128x128x128x5 .f32 :=
  transpose S128x128x128x5 [3, 2, 0, 1]
    (Host.dotGeneral dot_S5x256x128x128_S128x128x256_S128x5x128x128_1_2_02_0_3_1 none
      (Host.dotGeneral dot_S256x5x256_S128x128x256_S5x256x128x128_0_2_12_01_n_n none Tc (pairR Tt T X)) (pairR Th H X))
    transposes_S128x5x128x128_S128x128x128x5_3_2_0_1

/-- Of real tables and tensors that result is the predictions. -/
theorem answerR_eq {Th Tt : FVec Ideal S256x256x256 .f32} {Tc : FVec Ideal S256x5x256 .f32} {H T X : FVec Ideal S128x256 .f32}
    {h t x : Fin 128 → Fin 256 → EReal} (hTh : ∀ i, IsReal (Th i)) (hTt : ∀ i, IsReal (Tt i)) (hTc : ∀ i, IsReal (Tc i))
    (hH : ∀ n q, H (ix2 n q) = h n q) (hT : ∀ n q, T (ix2 n q) = t n q) (hX : ∀ n q, X (ix2 n q) = x n q)
    (rh : ∀ n q, IsReal (h n q)) (rt : ∀ n q, IsReal (t n q)) (rx : ∀ n q, IsReal (x n q)) :
    answerR Th Tt Tc H T X = answer h t x Th Tt Tc := by
  funext y
  have hs := predOf_swap (Tc := fun b m c => Tc (ix3 b m c)) (P := pairOf x h fun a b c => Th (ix3 a b c))
    (Q := pairOf x t fun a b c => Tt (ix3 a b c)) (fun _ _ _ => hTc _) (isReal_pairOf rx rh fun _ _ _ => hTh _)
    (isReal_pairOf rx rt fun _ _ _ => hTt _) (y 0) (y 1) (y 2) (y 3)
  refine Eq.trans ?_ hs.symm
  have ht : answerR Th Tt Tc H T X y = Host.dotGeneral dot_S5x256x128x128_S128x128x256_S128x5x128x128_1_2_02_0_3_1 none
      (Host.dotGeneral dot_S256x5x256_S128x128x256_S5x256x128x128_0_2_12_01_n_n none Tc (pairR Tt T X)) (pairR Th H X)
      (ix4 (y 2) (y 3) (y 1) (y 0)) :=
    transpose_apply _ _ _ y (ix4 (y 2) (y 3) (y 1) (y 0) : S128x5x128x128.Idx) fun a => by
      match a with
      | ⟨0, _⟩ => rfl
      | ⟨1, _⟩ => rfl
      | ⟨2, _⟩ => rfl
      | ⟨3, _⟩ => rfl
  refine ht.trans ((dot_fourth _ _ (ix4 (y 2) (y 3) (y 1) (y 0))).trans (Finset.sum_congr rfl fun c _ => ?_))
  refine congrArg₂ (· * ·) ?_ (pairR_apply Th hH hX (y 0) (y 2) c)
  refine (dot_third Tc _ (ix4 (y 3) c (y 1) (y 2))).trans (Finset.sum_congr rfl fun b _ => ?_)
  exact congrArg (Tc (ix3 b (y 3) c) * ·) (pairR_apply Tt hT hX (y 1) (y 2) b)

/-- The reference's result as a function of its nineteen arguments. -/
def resultR (E : FVec Ideal S1x512x768 .f32) (I J K : IVec S128x16 32) (A : FVec Ideal S512x768 .f32) (a : FVec Ideal S512 .f32)
    (B : FVec Ideal S512x768 .f32) (b : FVec Ideal S512 .f32) (C : FVec Ideal S512x768 .f32) (c : FVec Ideal S512 .f32)
    (D : FVec Ideal S512x768 .f32) (d : FVec Ideal S512 .f32) (F : FVec Ideal S512x768 .f32) (f : FVec Ideal S512 .f32)
    (G : FVec Ideal S512x768 .f32) (g : FVec Ideal S512 .f32) (Th Tt : FVec Ideal S256x256x256 .f32) (Tc : FVec Ideal S256x5x256 .f32) :
    FVec Ideal S128x128x128x5 .f32 :=
  answerR Th Tt Tc (poolR (gatesR E I A a) (gatesR E I B b)) (poolR (gatesR E J C c) (gatesR E J D d))
    (poolR (gatesR E K F f) (gatesR E K G g))

/-- Of indices in range and real operands that result is the predictions over the three groups' tables. -/
theorem resultR_eq {E : FVec Ideal S1x512x768 .f32} {I J K : IVec S128x16 32} {A : FVec Ideal S512x768 .f32} (a : FVec Ideal S512 .f32)
    {B : FVec Ideal S512x768 .f32} (b : FVec Ideal S512 .f32) {C : FVec Ideal S512x768 .f32} (c : FVec Ideal S512 .f32)
    {D : FVec Ideal S512x768 .f32} (d : FVec Ideal S512 .f32) {F : FVec Ideal S512x768 .f32} (f : FVec Ideal S512 .f32)
    {G : FVec Ideal S512x768 .f32} (g : FVec Ideal S512 .f32) {Th Tt : FVec Ideal S256x256x256 .f32} {Tc : FVec Ideal S256x5x256 .f32}
    (h : Good E I J K A B C D F G Th Tt Tc) : resultR E I J K A a B b C c D d F f G g Th Tt Tc
      = answer (table E I A a B b) (table E J C c D d) (table E K F f G g) Th Tt Tc :=
  answerR_eq h.th h.tt h.tc (group_apply E I A a B b h.idx₁) (group_apply E J C c D d h.idx₂) (group_apply E K F f G g h.idx₃)
    (isReal_table E I A a B b) (isReal_table E J C c D d) (isReal_table E K F f G g)

/-- What the reference's run leaves in its result array, as that function of the argument arrays. -/
theorem res_eq (V : Valuation τ sig (Elt Ideal)) :
    transpose S128x128x128x5 [3, 2, 0, 1] (Value.res_main_v185 V) transposes_S128x5x128x128_S128x128x128x5_3_2_0_1
      = resultR (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) (V (Proc.devRef .tc main_arg9))
        (V (Proc.devRef .tc main_arg10)) (V (Proc.devRef .tc main_arg11)) (V (Proc.devRef .tc main_arg12)) (V (Proc.devRef .tc main_arg13)) (V (Proc.devRef .tc main_arg14))
        (V (Proc.devRef .tc main_arg15)) (V (Proc.devRef .tc main_arg16)) (V (Proc.devRef .tc main_arg17)) (V (Proc.devRef .tc main_arg18)) := rfl

end Cert.Opinion

end
-- ==== Proof.Precond.lean ====
/-
  What the precondition says: the indices are in range, and the encoder's outputs, the weights and the tensors are real.
-/
module

public import proofs.«01_k».proof.Defs
public import proofs.«01_k».proof.Proof.Good
public import proofs.«01_k».proof.Proof.Gen.Pre_finite_and_in_range
public import Idealize.ShloMosaic.Lib.WordCmp

@[expose] public section

set_option maxRecDepth 16384

noncomputable section

namespace Cert.Opinion

open Idealize.ShloMosaic Idealize.ShloMosaic.TcCoe

/-- A value whose magnitude is below plus infinity is a real number. -/
theorem isReal_of_flag {x : EReal}
    (h : FloatOps.cmpf (F := Ideal) (φ := .f32) .olt (FloatOps.hostAbsf (F := Ideal) (φ := .f32) x) (FloatOps.ofBits (F := Ideal) .f32 0x7F800000#32) = 1#1) :
    IsReal x := by
  have ht : Ideal.ofBits .f32 0x7F800000#32 = ⊤ := by simp [Ideal.ofBits, Ideal.ieee]
  have h' : BitVec.ofBool (decide (max x (-x) < Ideal.ofBits .f32 0x7F800000#32)) = 1#1 := h
  rw [ht] at h'
  have hlt : max x (-x) < ⊤ := by
    by_contra hn
    rw [decide_eq_false hn] at h'
    exact absurd h' (by decide)
  rw [max_lt_iff] at hlt
  induction x using EReal.rec with
  | bot => exact absurd hlt.2 (by simp)
  | top => exact absurd hlt.1 (by simp)
  | coe r => exact ⟨r, rfl⟩

/-- A word at least zero and below 512, both as signed words, is below 512 as a natural number. -/
theorem lt_of_flag {x : BitVec 32} (h : IntOp.andi (IntOp.cmpi .sge x 0#32) (IntOp.cmpi .slt x 512#32) = 1#1) : x.toNat < 512 := by
  rw [WordCmp.cmpi_sge_zero] at h
  by_cases h0 : x.toNat < 2 ^ 31
  · by_contra hn
    have h1 : IntOp.cmpi .slt x 512#32 = 0#1 := by
      rw [WordCmp.cmpi_slt_eq, WordCmp.toInt_eq_toNat_of_lt_half h0, decide_eq_false]
      · rfl
      · rw [show (512#32 : BitVec 32).toInt = 512 from rfl]; omega
    rw [h1] at h
    unfold IntOp.andi at h
    rw [BitVec.and_zero] at h
    exact absurd h (by decide)
  · rw [decide_eq_false h0] at h
    unfold IntOp.andi at h
    rw [show BitVec.ofBool false = 0#1 from rfl, BitVec.zero_and] at h
    exact absurd h (by decide)

open Cert.KernelIdeal in
/-- The precondition gives what the value proofs use. -/
theorem good_of_pre {m : (ℓ : Loc nD τ sig) → Buf (Elt Ideal) ℓ} (h : Cert.Pre_KernelIdeal_finite_and_in_range m) (c : Dev nD) :
    Good (m (c.tc.loc main_arg0)) (m (c.tc.loc main_arg1)) (m (c.tc.loc main_arg2)) (m (c.tc.loc main_arg3)) (m (c.tc.loc main_arg4))
      (m (c.tc.loc main_arg6)) (m (c.tc.loc main_arg8)) (m (c.tc.loc main_arg10)) (m (c.tc.loc main_arg12)) (m (c.tc.loc main_arg14))
      (m (c.tc.loc main_arg16)) (m (c.tc.loc main_arg17)) (m (c.tc.loc main_arg18)) := by
  obtain ⟨i1, i2, i3, e, a, b, d, f, g, k, th, tt, tc⟩ := h c
  exact
    { enc := fun i => isReal_of_flag (congrFun e i)
      idx₁ := fun i => lt_of_flag (congrFun i1 i)
      idx₂ := fun i => lt_of_flag (congrFun i2 i)
      idx₃ := fun i => lt_of_flag (congrFun i3 i)
      w₁ := fun i => isReal_of_flag (congrFun a i)
      w₂ := fun i => isReal_of_flag (congrFun b i)
      w₃ := fun i => isReal_of_flag (congrFun d i)
      w₄ := fun i => isReal_of_flag (congrFun f i)
      w₅ := fun i => isReal_of_flag (congrFun g i)
      w₆ := fun i => isReal_of_flag (congrFun k i)
      th := fun i => isReal_of_flag (congrFun th i)
      tt := fun i => isReal_of_flag (congrFun tt i)
      tc := fun i => isReal_of_flag (congrFun tc i) }

end Cert.Opinion

end
-- ==== Proof.Claims.lean ====
/-
  The claims: each program's run leaves its arguments and its counters alone, and the kernel and the reference end with
  the same predictions.
-/
module

public import proofs.«01_k».proof.Proof.KernelRun
public import proofs.«01_k».proof.Proof.RefValue
public import proofs.«01_k».proof.Proof.Precond
public import proofs.«01_k».proof.Proof.Gen.Kernel.Frame
public import Idealize.ShloMosaic.Init

@[expose] public section

set_option maxRecDepth 16384

noncomputable section

namespace Cert.Opinion

open Idealize.ShloMosaic Idealize.ShloMosaic.TcCoe Idealize.ShloMosaic.StableHlo Idealize.SL.Sem

/-- The reference's frame: every run ends, the arguments as launched and every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Kernel

open Cert.KernelIdeal Cert.KernelIdeal.Gen

/-- The kernel's run: under the precondition the result array ends at the predictions, the arguments as launched. -/
theorem kernel_result {m : (ℓ : Loc nD τ sig) → Buf (Elt Ideal) ℓ} (ρ : Dev nD → PrngReg) (hm : ∀ c, GoodAt m c) :
    θ_run (defs (F := Ideal)) (onTc (τ := τ) (main (F := Ideal))) ⟨m, fun _ => 0, ρ⟩ (fun r => ∀ c : Dev nD,
      r.2.mem ((c.tc : Thread nD τ).loc main_v17)
        = answer (tableH m c) (tableT m c) (tableE m c) (m (c.tc.loc main_arg16)) (m (c.tc.loc main_arg17)) (m (c.tc.loc main_arg18))
      ∧ ∀ b : Ref sig .tc, ¬ (Proc.devRef .tc b : DevRef τ sig).isScoped → W7 m ρ c (Proc.devRef .tc b) = m (c.tc.loc b) →
        r.2.mem ((c.tc : Thread nD τ).loc b) = m ((c.tc : Thread nD τ).loc b)) :=
  (θ_run defs _ _).mono (fun _ h c => ⟨(h c _ (mem_uc main_v17 (by decide))).trans (kernel_value m ρ c (hm c)),
    fun b hb hk => (h c _ (mem_uc b hb)).trans hk⟩) (kernel_ends m ρ)

end Kernel

/-- From equal arguments under the precondition, the kernel and the reference end with equal predictions. -/
theorem same_result : Cert.algebraic_KernelIdeal_ReferenceIdeal_pre_finite_and_in_range := by
  intro m g m' g' hpre hargs
  have hm : ∀ c, GoodAt m c := good_of_pre hpre
  refine ⟨fun c => answer (tableH m c) (tableT m c) (tableE m c) (m (c.tc.loc Cert.KernelIdeal.main_arg16))
    (m (c.tc.loc Cert.KernelIdeal.main_arg17)) (m (c.tc.loc Cert.KernelIdeal.main_arg18)), ?_, ?_⟩
  · refine (θ_run Cert.KernelIdeal.defs _ _).mono (fun r h c => ?_) (kernel_result g hm)
    have k : ∀ b : Ref Cert.KernelIdeal.sig .tc, _ := (h c).2
    exact ⟨(h c).1, k _ (by decide) (Cert.KernelIdeal.Gen.W7_main_arg0 m g c),
      k _ (by decide) (Cert.KernelIdeal.Gen.W7_main_arg1 m g c),
      k _ (by decide) (Cert.KernelIdeal.Gen.W7_main_arg2 m g c),
      k _ (by decide) (Cert.KernelIdeal.Gen.W7_main_arg3 m g c),
      k _ (by decide) (Cert.KernelIdeal.Gen.W7_main_arg4 m g c),
      k _ (by decide) (Cert.KernelIdeal.Gen.W7_main_arg5 m g c),
      k _ (by decide) (Cert.KernelIdeal.Gen.W7_main_arg6 m g c),
      k _ (by decide) (Cert.KernelIdeal.Gen.W7_main_arg7 m g c),
      k _ (by decide) (Cert.KernelIdeal.Gen.W7_main_arg8 m g c),
      k _ (by decide) (Cert.KernelIdeal.Gen.W7_main_arg9 m g c),
      k _ (by decide) (Cert.KernelIdeal.Gen.W7_main_arg10 m g c),
      k _ (by decide) (Cert.KernelIdeal.Gen.W7_main_arg11 m g c),
      k _ (by decide) (Cert.KernelIdeal.Gen.W7_main_arg12 m g c),
      k _ (by decide) (Cert.KernelIdeal.Gen.W7_main_arg13 m g c),
      k _ (by decide) (Cert.KernelIdeal.Gen.W7_main_arg14 m g c),
      k _ (by decide) (Cert.KernelIdeal.Gen.W7_main_arg15 m g c),
      k _ (by decide) (Cert.KernelIdeal.Gen.W7_main_arg16 m g c),
      k _ (by decide) (Cert.KernelIdeal.Gen.W7_main_arg17 m g c),
      k _ (by decide) (Cert.KernelIdeal.Gen.W7_main_arg18 m g c)⟩
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10, e11, e12, e13, e14, e15, e16, e17, e18⟩ := hargs c
    refine (res_eq (launchContents m' c)).trans (Eq.trans ?_ (resultR_eq _ _ _ _ _ _ (hm c)))
    show resultR (m' (c.tc.loc Cert.ReferenceIdeal.main_arg0)) (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4)) (m' (c.tc.loc Cert.ReferenceIdeal.main_arg5))
      (m' (c.tc.loc Cert.ReferenceIdeal.main_arg6)) (m' (c.tc.loc Cert.ReferenceIdeal.main_arg7)) (m' (c.tc.loc Cert.ReferenceIdeal.main_arg8))
      (m' (c.tc.loc Cert.ReferenceIdeal.main_arg9)) (m' (c.tc.loc Cert.ReferenceIdeal.main_arg10)) (m' (c.tc.loc Cert.ReferenceIdeal.main_arg11))
      (m' (c.tc.loc Cert.ReferenceIdeal.main_arg12)) (m' (c.tc.loc Cert.ReferenceIdeal.main_arg13)) (m' (c.tc.loc Cert.ReferenceIdeal.main_arg14))
      (m' (c.tc.loc Cert.ReferenceIdeal.main_arg15)) (m' (c.tc.loc Cert.ReferenceIdeal.main_arg16)) (m' (c.tc.loc Cert.ReferenceIdeal.main_arg17))
      (m' (c.tc.loc Cert.ReferenceIdeal.main_arg18)) = _
    rw [e0, e1, e2, e3, e4, e5, e6, e7, e8, e9, e10, e11, e12, e13, e14, e15, e16, e17, e18]

end Cert.Opinion

end
-- ==== Proof.lean ====
/-
  The proof of what this directory's test file claims (`Cert.Claim`, Defs.lean): the frames of the kernel, of its reading
  over the extended reals and of the reference; that this reading is the kernel's own text; and that kernel and reference
  end with equal predictions. The modules under Proof/ prove the parts: `Spec` says what the predictions are, `KernelRun`
  that the kernel computes them, `RefValue` that the reference does, `Precond` what the precondition gives, `Claims` the
  claims themselves.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_and_in_range
public import proofs.«01_k».proof.Proof.Claims

@[expose] public section

noncomputable section

namespace Cert.Proof

open Idealize.ShloMosaic Idealize.SL.Sem

/-- Every claim, each from the part that proves it. -/
theorem claim : Cert.Claim :=
  ⟨Cert.Kernel.Gen.facts, Cert.KernelIdeal.Gen.facts, Cert.ReferenceIdeal.Gen.facts, Cert.Pre_finite_and_in_range.Gen.facts,
    fun m ρ _ => Cert.Kernel.Gen.frame m ρ, fun m ρ _ => Cert.KernelIdeal.Gen.frame m ρ, fun m ρ _ => Cert.KernelIdeal.Gen.frame m ρ,
    Cert.Opinion.reference_frame, fun m ρ _ => Cert.Opinion.reference_frame m ρ trivial, trivial, Cert.Opinion.same_result⟩

end Cert.Proof

end
